-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv_n" .f32 0x39AAAAAB#32 ((1 / 3072 : ℝ) : EReal)
  ∧ IdealRules.named_const.Statement Cert.KernelIdeal.κ "inv_n2" .f32 0x33E38E39#32 ((1 / 9437184 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x1024x3072 : Shape := ⟨3, ![2, 1024, 3072]⟩
abbrev S2x1024 : Shape := ⟨2, ![2, 1024]⟩
abbrev S2x3072 : Shape := ⟨2, ![2, 3072]⟩
abbrev S_ : Shape := ⟨0, ![]⟩

class Facts : Prop where
  natLt_8_32 : 8 < 32
  bcast_S_S2x1024x3072 : S_.BroadcastsInDim S2x1024x3072 (![] : Fin 0 → Fin S2x1024x3072.rank)
  bcast_S_S2x1024 : S_.BroadcastsInDim S2x1024 (![] : Fin 0 → Fin S2x1024.rank)
  bcast_S_S2x3072 : S_.BroadcastsInDim S2x3072 (![] : Fin 0 → Fin S2x3072.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S2x1024x3072 32) (arg1 : IVec S_ 32) : IVec S2x1024x3072 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S2x1024x3072 32 := broadcastInDim S2x1024x3072 ![] bcast_S_S2x1024x3072 v2
  let v4 : IVec S2x1024x3072 32 := Host.remsi arg0 v3
  let c_1 : IVec S_ 32 := constantI S_ 32 0#32
  let v5 : IVec S2x1024x3072 32 := broadcastInDim S2x1024x3072 ![] bcast_S_S2x1024x3072 c_1
  let v6 : IVec S2x1024x3072 1 := cmpi .ne v4 v5
  let c_2 : IVec S_ 32 := constantI S_ 32 0#32
  let v7 : IVec S2x1024x3072 32 := broadcastInDim S2x1024x3072 ![] bcast_S_S2x1024x3072 c_2
  let v8 : IVec S2x1024x3072 1 := cmpi .slt v4 v7
  let c_3 : IVec S_ 32 := constantI S_ 32 0#32
  let v9 : IVec S_ 1 := cmpi .slt v2 c_3
  let v10 : IVec S2x1024x3072 1 := broadcastInDim S2x1024x3072 ![] bcast_S_S2x1024x3072 v9
  let v11 : IVec S2x1024x3072 1 := cmpi .ne v8 v10
  let v12 : IVec S2x1024x3072 1 := andi v11 v6
  let v13 : IVec S2x1024x3072 32 := broadcastInDim S2x1024x3072 ![] bcast_S_S2x1024x3072 v2
  let v14 : IVec S2x1024x3072 32 := addi v4 v13
  let v15 : IVec S2x1024x3072 32 := select v12 v14 v4
  v15

def fn_part1 {F : FTy → Type} [FloatOps F] (main_arg4 : FVec F S2x1024 .f32) (main_arg6 : FVec F S2x1024 .f32) (main_arg7 : FVec F S2x3072 .f32) (main_v3 : IVec S2x1024x3072 1) (main_v7 : IVec S2x1024x3072 1) (main_v11 : IVec S2x1024x3072 1) (main_v14 : IVec S2x1024 1) (main_v15 : FVec F S2x1024x3072 .bf16) (main_cst_5 : FVec F S_ .bf16) : IVec S2x1024x3072 1 × IVec S2x1024x3072 1 × IVec S2x1024x3072 1 × IVec S2x1024 1 × IVec S2x1024x3072 1 × IVec S2x1024 1 × IVec S2x1024 1 × IVec S2x3072 1 :=
  let main_v16 : FVec F S2x1024x3072 .bf16 := broadcastInDim S2x1024x3072 ![] bcast_S_S2x1024x3072 main_cst_5
  let main_v17 : IVec S2x1024x3072 1 := cmpf .olt main_v15 main_v16
  let main_v18 : FVec F S2x1024 .f32 := Host.absf main_arg4
  let main_cst_6 : FVec F S_ .f32 := constant S_ .f32 0x7F800000#32
  let main_v19 : FVec F S2x1024 .f32 := broadcastInDim S2x1024 ![] bcast_S_S2x1024 main_cst_6
  let main_v20 : IVec S2x1024 1 := cmpf .olt main_v18 main_v19
  let main_v21 : FVec F S2x1024 .f32 := Host.absf main_arg6
  let main_cst_7 : FVec F S_ .f32 := constant S_ .f32 0x7F800000#32
  let main_v22 : FVec F S2x1024 .f32 := broadcastInDim S2x1024 ![] bcast_S_S2x1024 main_cst_7
  let main_v23 : IVec S2x1024 1 := cmpf .olt main_v21 main_v22
  let main_v24 : FVec F S2x3072 .f32 := Host.absf main_arg7
  let main_cst_8 : FVec F S_ .f32 := constant S_ .f32 0x7F800000#32
  let main_v25 : FVec F S2x3072 .f32 := broadcastInDim S2x3072 ![] bcast_S_S2x3072 main_cst_8
  let main_v26 : IVec S2x3072 1 := cmpf .olt main_v24 main_v25
  (main_v3, main_v7, main_v11, main_v14, main_v17, main_v20, main_v23, main_v26)

def fn {F : FTy → Type} [FloatOps F] (main_arg0 : IVec S2x1024x3072 8) (main_arg1 : FVec F S2x1024 .f32) (main_arg2 : FVec F S2x1024x3072 .bf16) (main_arg3 : IVec S2x1024x3072 8) (main_arg4 : FVec F S2x1024 .f32) (main_arg5 : IVec S2x1024x3072 8) (main_arg6 : FVec F S2x1024 .f32) (main_arg7 : FVec F S2x3072 .f32) : IVec S2x1024x3072 1 × IVec S2x1024x3072 1 × IVec S2x1024x3072 1 × IVec S2x1024 1 × IVec S2x1024x3072 1 × IVec S2x1024 1 × IVec S2x1024 1 × IVec S2x3072 1 :=
  let main_v0 : IVec S2x1024x3072 32 := (extui 32 · natLt_8_32) main_arg0
  let main_c : IVec S_ 32 := constantI S_ 32 128#32
  let main_v1 : IVec S2x1024x3072 32 := fn_remainder (F := F) main_v0 main_c
  let main_c_0 : IVec S_ 32 := constantI S_ 32 127#32
  let main_v2 : IVec S2x1024x3072 32 := broadcastInDim S2x1024x3072 ![] bcast_S_S2x1024x3072 main_c_0
  let main_v3 : IVec S2x1024x3072 1 := cmpi .ne main_v1 main_v2
  let main_v4 : IVec S2x1024x3072 32 := (extui 32 · natLt_8_32) main_arg3
  let main_c_1 : IVec S_ 32 := constantI S_ 32 128#32
  let main_v5 : IVec S2x1024x3072 32 := fn_remainder (F := F) main_v4 main_c_1
  let main_c_2 : IVec S_ 32 := constantI S_ 32 124#32
  let main_v6 : IVec S2x1024x3072 32 := broadcastInDim S2x1024x3072 ![] bcast_S_S2x1024x3072 main_c_2
  let main_v7 : IVec S2x1024x3072 1 := cmpi .slt main_v5 main_v6
  let main_v8 : IVec S2x1024x3072 32 := (extui 32 · natLt_8_32) main_arg5
  let main_c_3 : IVec S_ 32 := constantI S_ 32 128#32
  let main_v9 : IVec S2x1024x3072 32 := fn_remainder (F := F) main_v8 main_c_3
  let main_c_4 : IVec S_ 32 := constantI S_ 32 124#32
  let main_v10 : IVec S2x1024x3072 32 := broadcastInDim S2x1024x3072 ![] bcast_S_S2x1024x3072 main_c_4
  let main_v11 : IVec S2x1024x3072 1 := cmpi .slt main_v9 main_v10
  let main_v12 : FVec F S2x1024 .f32 := Host.absf main_arg1
  let main_cst : FVec F S_ .f32 := constant S_ .f32 0x7F800000#32
  let main_v13 : FVec F S2x1024 .f32 := broadcastInDim S2x1024 ![] bcast_S_S2x1024 main_cst
  let main_v14 : IVec S2x1024 1 := cmpf .olt main_v12 main_v13
  let main_v15 : FVec F S2x1024x3072 .bf16 := Host.absf main_arg2
  let main_cst_5 : FVec F S_ .bf16 := constant S_ .bf16 0x7F80#16
  fn_part1 (F := F) main_arg4 main_arg6 main_arg7 main_v3 main_v7 main_v11 main_v14 main_v15 main_cst_5
-- ==== Kernel.lean ====
abbrev S2x1024x3072 : Shape := ⟨3, ![2, 1024, 3072]⟩
abbrev S2x1024 : Shape := ⟨2, ![2, 1024]⟩
abbrev S2x3072 : Shape := ⟨2, ![2, 3072]⟩
abbrev S2x3x3072 : Shape := ⟨3, ![2, 3, 3072]⟩
abbrev S2x8x3x3072 : Shape := ⟨4, ![2, 8, 3, 3072]⟩
abbrev S1x128x3072 : Shape := ⟨3, ![1, 128, 3072]⟩
abbrev S1x3x3072 : Shape := ⟨3, ![1, 3, 3072]⟩
abbrev S1x1x3x3072 : Shape := ⟨4, ![1, 1, 3, 3072]⟩
abbrev S1x3072 : Shape := ⟨2, ![1, 3072]⟩
abbrev S32x3072 : Shape := ⟨2, ![32, 3072]⟩
abbrev S128x3072 : Shape := ⟨2, ![128, 3072]⟩
abbrev S8x3072 : Shape := ⟨2, ![8, 3072]⟩
abbrev S128x128 : Shape := ⟨2, ![128, 128]⟩
abbrev S2x128 : Shape := ⟨2, ![2, 128]⟩
abbrev S1x128 : Shape := ⟨2, ![1, 128]⟩
abbrev S128x1 : Shape := ⟨2, ![128, 1]⟩
abbrev S32x1 : Shape := ⟨2, ![32, 1]⟩
abbrev S32x128 : Shape := ⟨2, ![32, 128]⟩
abbrev S1x32x128 : Shape := ⟨3, ![1, 32, 128]⟩
abbrev S32 : Shape := ⟨1, ![32]⟩
abbrev S8x128 : Shape := ⟨2, ![8, 128]⟩
abbrev S16x128 : Shape := ⟨2, ![16, 128]⟩
abbrev S16x3072 : Shape := ⟨2, ![16, 3072]⟩
abbrev S3072 : Shape := ⟨1, ![3072]⟩
abbrev S3x3072 : Shape := ⟨2, ![3, 3072]⟩

abbrev nBuf : Space → Nat
  | .hbm => 15
  | .vmem => 26
  | .smem => 0
  | _ => 0

abbrev bufTy : (tb : Table) → Fin (tcTables nBuf tb) → BufTy
  | .hbm, ⟨0, _⟩ => ⟨S2x1024x3072, .i8⟩
  | .hbm, ⟨1, _⟩ => ⟨S2x1024, .f32⟩
  | .hbm, ⟨2, _⟩ => ⟨S2x1024x3072, .bf16⟩
  | .hbm, ⟨3, _⟩ => ⟨S2x1024x3072, .i8⟩
  | .hbm, ⟨4, _⟩ => ⟨S2x1024, .f32⟩
  | .hbm, ⟨5, _⟩ => ⟨S2x1024x3072, .i8⟩
  | .hbm, ⟨6, _⟩ => ⟨S2x1024, .f32⟩
  | .hbm, ⟨7, _⟩ => ⟨S2x3072, .f32⟩
  | .hbm, ⟨8, _⟩ => ⟨S2x1024x3072, .fp8e4m3⟩
  | .hbm, ⟨9, _⟩ => ⟨S2x1024x3072, .fp8e5m2⟩
  | .hbm, ⟨10, _⟩ => ⟨S2x1024x3072, .fp8e5m2⟩
  | .hbm, ⟨11, _⟩ => ⟨S2x3x3072, .f32⟩
  | .hbm, ⟨12, _⟩ => ⟨S2x8x3x3072, .f32⟩
  | .hbm, ⟨13, _⟩ => ⟨S2x1024x3072, .fp8e5m2⟩
  | .hbm, ⟨14, _⟩ => ⟨S2x1024, .f32⟩
  | .local _ .vmem, ⟨0, _⟩ => ⟨S1x128x3072, .fp8e4m3⟩
  | .local _ .vmem, ⟨1, _⟩ => ⟨S1x128x3072, .fp8e4m3⟩
  | .local _ .vmem, ⟨2, _⟩ => ⟨S2x1024, .f32⟩
  | .local _ .vmem, ⟨3, _⟩ => ⟨S1x128x3072, .bf16⟩
  | .local _ .vmem, ⟨4, _⟩ => ⟨S1x128x3072, .bf16⟩
  | .local _ .vmem, ⟨5, _⟩ => ⟨S1x128x3072, .fp8e5m2⟩
  | .local _ .vmem, ⟨6, _⟩ => ⟨S1x128x3072, .fp8e5m2⟩
  | .local _ .vmem, ⟨7, _⟩ => ⟨S2x1024, .f32⟩
  | .local _ .vmem, ⟨8, _⟩ => ⟨S1x128x3072, .fp8e5m2⟩
  | .local _ .vmem, ⟨9, _⟩ => ⟨S1x128x3072, .fp8e5m2⟩
  | .local _ .vmem, ⟨10, _⟩ => ⟨S2x1024, .f32⟩
  | .local _ .vmem, ⟨11, _⟩ => ⟨S2x3072, .f32⟩
  | .local _ .vmem, ⟨12, _⟩ => ⟨S1x3x3072, .f32⟩
  | .local _ .vmem, ⟨13, _⟩ => ⟨S1x3x3072, .f32⟩
  | .local _ .vmem, ⟨14, _⟩ => ⟨S1x1x3x3072, .f32⟩
  | .local _ .vmem, ⟨15, _⟩ => ⟨S1x1x3x3072, .f32⟩
  | .local _ .vmem, ⟨16, _⟩ => ⟨S1x128x3072, .fp8e5m2⟩
  | .local _ .vmem, ⟨17, _⟩ => ⟨S1x128x3072, .fp8e5m2⟩
  | .local _ .vmem, ⟨18, _⟩ => ⟨S2x1024, .f32⟩
  | .local _ .vmem, ⟨19, _⟩ => ⟨S1x3072, .f32⟩
  | .local _ .vmem, ⟨20, _⟩ => ⟨S32x3072, .f32⟩
  | .local _ .vmem, ⟨21, _⟩ => ⟨S32x3072, .f32⟩
  | .local _ .vmem, ⟨22, _⟩ => ⟨S128x3072, .bf16⟩
  | .local _ .vmem, ⟨23, _⟩ => ⟨S128x3072, .bf16⟩
  | .local _ .vmem, ⟨24, _⟩ => ⟨S8x3072, .f32⟩
  | .local _ .vmem, ⟨25, _⟩ => ⟨S128x128, .f32⟩
  | _, _ => ⟨S2x1024x3072, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  v0
def k0_off1 (i : grid0.Coords) : Fin 2 → Nat :=
  let c0_3 : Index := 0#32
  let arg1 : BitVec 32 := BitVec.ofNat 32 (i 1).val
  let c128_i32 : BitVec 32 := 128#32
  let v0 : BitVec 32 := Scalar.muli arg1 c128_i32
  let v1 : BitVec 32 := v0
  let v12 : Index := Scalar.indexCast v1
  ![0, v12.toNat]
def k0_cond1 (i : grid0.Coords) : BitVec 1 :=
  let arg0 : BitVec 32 := BitVec.ofNat 32 (i 0).val
  let c0_i32_4105 : BitVec 32 := 0#32
  let v8251 : BitVec 1 := Scalar.cmpi .eq arg0 c0_i32_4105
  let v8252 : BitVec 32 := Scalar.extui v8251
  let c0_i32_4106 : BitVec 32 := 0#32
  let v8253 : BitVec 1 := Scalar.cmpi .ne v8252 c0_i32_4106
  v8253

def k0_off2 (i : grid0.Coords) : Fin 2 → Nat :=
  let c0_4128 : Index := 0#32
  let arg1 : BitVec 32 := BitVec.ofNat 32 (i 1).val
  let c128_i32 : BitVec 32 := 128#32
  let v0 : BitVec 32 := Scalar.muli arg1 c128_i32
  let v1 : BitVec 32 := v0
  let v8314 : Index := Scalar.indexCast v1
  ![0, v8314.toNat]
def k0_cond2 (i : grid0.Coords) : BitVec 1 :=
  let arg0 : BitVec 32 := BitVec.ofNat 32 (i 0).val
  let c1_i32 : BitVec 32 := 1#32
  let v8254 : BitVec 1 := Scalar.cmpi .eq arg0 c1_i32
  let v8255 : BitVec 32 := Scalar.extui v8254
  let c0_i32_4107 : BitVec 32 := 0#32
  let v8256 : BitVec 1 := Scalar.cmpi .ne v8255 c0_i32_4107
  v8256

def k0_off3 (i : grid0.Coords) : Fin 2 → Nat :=
  let c1_4128 : Index := 1#32
  let arg1 : BitVec 32 := BitVec.ofNat 32 (i 1).val
  let c128_i32 : BitVec 32 := 128#32
  let v0 : BitVec 32 := Scalar.muli arg1 c128_i32
  let v1 : BitVec 32 := v0
  let v8314 : Index := Scalar.indexCast v1
  ![1, v8314.toNat]
def k0_cond3 (i : grid0.Coords) : BitVec 1 :=
  let arg1 : BitVec 32 := BitVec.ofNat 32 (i 1).val
  let c0_i32_4124 : BitVec 32 := 0#32
  let v8308 : BitVec 1 := Scalar.cmpi .eq arg1 c0_i32_4124
  let v8309 : BitVec 32 := Scalar.extui v8308
  let c0_i32_4125 : BitVec 32 := 0#32
  let v8310 : BitVec 1 := Scalar.cmpi .ne v8309 c0_i32_4125
  v8310

def k0_cond4 (i : grid0.Coords) : BitVec 1 :=
  let arg1 : BitVec 32 := BitVec.ofNat 32 (i 1).val
  let c0_i32_4126 : BitVec 32 := 0#32
  let v8311 : BitVec 1 := Scalar.cmpi .sgt arg1 c0_i32_4126
  let v8312 : BitVec 32 := Scalar.extui v8311
  let c0_i32_4127 : BitVec 32 := 0#32
  let v8313 : BitVec 1 := Scalar.cmpi .ne v8312 c0_i32_4127
  v8313

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128x3072 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x3072 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x3072 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x3x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x3x3072 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x3072 .fp8e5m2 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S2x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== KernelIdeal.lean ====
variable {F : FTy → Type} [FloatOps F] [Named F]
def κ : String → Option EReal := fun
  | "inv_n" => some ((1 / 3072 : ℝ) : EReal)
  | "inv_n2" => some ((1 / 9437184 : ℝ) : EReal)
  | _ => none
-- ==== ReferenceIdeal.lean ====
abbrev S2x1024x3072 : Shape := ⟨3, ![2, 1024, 3072]⟩
abbrev S2x1024 : Shape := ⟨2, ![2, 1024]⟩
abbrev S2x3072 : Shape := ⟨2, ![2, 3072]⟩
abbrev S2x3x3072 : Shape := ⟨3, ![2, 3, 3072]⟩
abbrev S2x8x3x3072 : Shape := ⟨4, ![2, 8, 3, 3072]⟩
abbrev S2x1024x1 : Shape := ⟨3, ![2, 1024, 1]⟩
abbrev S2x8x128x3072 : Shape := ⟨4, ![2, 8, 128, 3072]⟩
abbrev S2x8x3072 : Shape := ⟨3, ![2, 8, 3072]⟩
abbrev S2x8x1x3072 : Shape := ⟨4, ![2, 8, 1, 3072]⟩
abbrev S2x1x3072 : Shape := ⟨3, ![2, 1, 3072]⟩

abbrev nBuf : Space → Nat
  | .hbm => 15
  | .vmem => 12
  | .smem => 0
  | _ => 0

abbrev bufTy : (tb : Table) → Fin (tcTables nBuf tb) → BufTy
  | .hbm, ⟨0, _⟩ => ⟨S2x1024x3072, .i8⟩
  | .hbm, ⟨1, _⟩ => ⟨S2x1024, .f32⟩
  | .hbm, ⟨2, _⟩ => ⟨S2x1024x3072, .bf16⟩
  | .hbm, ⟨3, _⟩ => ⟨S2x1024x3072, .i8⟩
  | .hbm, ⟨4, _⟩ => ⟨S2x1024, .f32⟩
  | .hbm, ⟨5, _⟩ => ⟨S2x1024x3072, .i8⟩
  | .hbm, ⟨6, _⟩ => ⟨S2x1024, .f32⟩
  | .hbm, ⟨7, _⟩ => ⟨S2x3072, .f32⟩
  | .hbm, ⟨8, _⟩ => ⟨S2x1024x3072, .fp8e4m3⟩
  | .hbm, ⟨9, _⟩ => ⟨S2x1024x3072, .fp8e5m2⟩
  | .hbm, ⟨10, _⟩ => ⟨S2x1024x3072, .fp8e5m2⟩
  | .hbm, ⟨11, _⟩ => ⟨S2x3x3072, .f32⟩
  | .hbm, ⟨12, _⟩ => ⟨S2x8x3x3072, .f32⟩
  | .hbm, ⟨13, _⟩ => ⟨S2x1024x3072, .fp8e5m2⟩
  | .hbm, ⟨14, _⟩ => ⟨S2x1024, .f32⟩
  | .local _ .vmem, ⟨0, _⟩ => ⟨S2x1024x3072, .fp8e4m3⟩
  | .local _ .vmem, ⟨1, _⟩ => ⟨S2x1024, .f32⟩
  | .local _ .vmem, ⟨2, _⟩ => ⟨S2x1024x3072, .bf16⟩
  | .local _ .vmem, ⟨3, _⟩ => ⟨S2x1024x3072, .fp8e5m2⟩
  | .local _ .vmem, ⟨4, _⟩ => ⟨S2x1024, .f32⟩
  | .local _ .vmem, ⟨5, _⟩ => ⟨S2x1024x3072, .fp8e5m2⟩
  | .local _ .vmem, ⟨6, _⟩ => ⟨S2x1024, .f32⟩
  | .local _ .vmem, ⟨7, _⟩ => ⟨S2x3072, .f32⟩
  | .local _ .vmem, ⟨8, _⟩ => ⟨S2x3x3072, .f32⟩
  | .local _ .vmem, ⟨9, _⟩ => ⟨S2x8x3x3072, .f32⟩
  | .local _ .vmem, ⟨10, _⟩ => ⟨S2x1024x3072, .fp8e5m2⟩
  | .local _ .vmem, ⟨11, _⟩ => ⟨S2x1024, .f32⟩
  | _, _ => ⟨S2x1024x3072, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S2x1024x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x3072 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024x3072 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x3x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x8x3x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1024x3072 .fp8e5m2 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.BitsRuns.lean ====
/- What the runs of the bit-exact kernel's body are stated over: the arrays at entry, the blocks of a point, the body's conditions
   in closed form over the points. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (Pipeline.mem_restRefs_of main_arg3 (by decide) (by decide))).trans (V_main_arg3 m c),
      (Pipeline.RDat.FramePost.arr_in h c 4 rfl).trans ((hA c 4).trans (V_main_arg4 m c)),
      ((h c).2 main_arg5 (Pipeline.mem_restRefs_of main_arg5 (by decide) (by decide))).trans (V_main_arg5 m c),
      (Pipeline.RDat.FramePost.arr_in h c 6 rfl).trans ((hA c 6).trans (V_main_arg6 m c)),
      (Pipeline.RDat.FramePost.arr_in h c 7 rfl).trans ((hA c 7).trans (V_main_arg7 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points before point 8 — by arithmetic of the point. -/
theorem hcond0_0 : ∀ t : Fin cfg0.N, cond0_0 (grid0.coords t) ↔ t.val < 8 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val < 8)

/-- The condition of the body's `scf.if` 1 (`k0_h2`), from the grid coordinates (the skeleton's scalar
    chain substituted). -/
abbrev cond0_1 (i : grid0.Coords) : Prop := k0_cond2 i = 1#1
/-- It holds at the points from point 8 on — by arithmetic of the point. -/
theorem hcond0_1 : ∀ t : Fin cfg0.N, cond0_1 (grid0.coords t) ↔ 8 ≤ t.val :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_1, k0_cond2, e0, e1]
    word_cmp
   : ∀ t : Fin grid0.N, cond0_1 (grid0.coords t) ↔ 8 ≤ t.val)

/-- The condition of the body's `scf.if` 2 (`k0_h3`), from the grid coordinates (the skeleton's scalar
    chain substituted). -/
abbrev cond0_2 (i : grid0.Coords) : Prop := k0_cond3 i = 1#1
/-- It holds at the points ≡ 0 (mod 8) — by arithmetic of the point. -/
theorem hcond0_2 : ∀ t : Fin cfg0.N, cond0_2 (grid0.coords t) ↔ t.val % 8 = 0 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_2, k0_cond3, e0, e1]
    word_cmp
   : ∀ t : Fin grid0.N, cond0_2 (grid0.coords t) ↔ t.val % 8 = 0)

/-- The condition of the body's `scf.if` 3 (`k0_h4`), from the grid coordinates (the skeleton's scalar
    chain substituted). -/
abbrev cond0_3 (i : grid0.Coords) : Prop := k0_cond4 i = 1#1
/-- It holds at the points whose coordinates have 1 ≤ i1 — decided over the grid. -/
theorem hcond0_3 : ∀ t : Fin cfg0.N, cond0_3 (grid0.coords t) ↔ 1 ≤ t.val % 8 :=
  (by decide +kernel : ∀ t : Fin grid0.N, cond0_3 (grid0.coords t) ↔ 1 ≤ t.val % 8)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x128x3072 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x3072 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x3072 .fp8e5m2 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128x3072 .fp8e5m2 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x3072 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x3x3072 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x3x3072 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x128x3072 .fp8e5m2 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2x1024 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S1x3072 .f32 := Memref.whole cc0_scratch0
abbrev scM0_1 : Memref sig .tc .vmem S32x3072 .f32 := Memref.whole cc0_scratch1
abbrev scM0_2 : Memref sig .tc .vmem S32x3072 .f32 := Memref.whole cc0_scratch2
abbrev scM0_3 : Memref sig .tc .vmem S128x3072 .bf16 := Memref.whole cc0_scratch3
abbrev scM0_4 : Memref sig .tc .vmem S128x3072 .bf16 := Memref.whole cc0_scratch4
abbrev scM0_5 : Memref sig .tc .vmem S8x3072 .f32 := Memref.whole cc0_scratch5
abbrev scM0_6 : Memref sig .tc .vmem S128x128 .f32 := Memref.whole cc0_scratch6

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.Kernel.Gen

end
-- ==== Proof.BitsRunA.lean ====
/- The bit-exact kernel's body run once, in case A of its conditionals (first or second sample, first or later block). The run modules
   form a chain, each importing the one before. -/
module

public import proofs.«01_k».proof.Proof.BitsRuns

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: checking it walks past the default budget)
set_option maxHeartbeats 12988000 in
/-- The body's triple IN CASE A (`scf.if` 0 taken, `scf.if` 1 not taken, `scf.if` 2 taken, `scf.if` 3 not taken: points 0): on whole staging memrefs — the inputs' at their contents,
    the FORGOTTEN outputs' (8, 9, 10, 11) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S1x128x3072 .fp8e4m3) (harg2 : arg2.IsWhole) (arg3 : Memref sig .tc .vmem S2x1024 .f32) (harg3 : arg3.IsWhole) (arg4 : Memref sig .tc .vmem S1x128x3072 .bf16) (harg4 : arg4.IsWhole) (arg5 : Memref sig .tc .vmem S1x128x3072 .fp8e5m2) (harg5 : arg5.IsWhole) (arg6 : Memref sig .tc .vmem S2x1024 .f32) (harg6 : arg6.IsWhole) (arg7 : Memref sig .tc .vmem S1x128x3072 .fp8e5m2) (harg7 : arg7.IsWhole) (arg8 : Memref sig .tc .vmem S2x1024 .f32) (harg8 : arg8.IsWhole) (arg9 : Memref sig .tc .vmem S2x3072 .f32) (harg9 : arg9.IsWhole) (arg10 : Memref sig .tc .vmem S1x3x3072 .f32) (harg10 : arg10.IsWhole) (arg11 : Memref sig .tc .vmem S1x1x3x3072 .f32) (harg11 : arg11.IsWhole) (arg12 : Memref sig .tc .vmem S1x128x3072 .fp8e5m2) (harg12 : arg12.IsWhole) (arg13 : Memref sig .tc .vmem S2x1024 .f32) (harg13 : arg13.IsWhole) (arg14 : Memref sig .tc .vmem S1x3072 .f32) (harg14 : arg14.IsWhole) (arg15 : Memref sig .tc .vmem S32x3072 .f32) (harg15 : arg15.IsWhole) (arg16 : Memref sig .tc .vmem S32x3072 .f32) (harg16 : arg16.IsWhole) (arg17 : Memref sig .tc .vmem S128x3072 .bf16) (harg17 : arg17.IsWhole) (arg18 : Memref sig .tc .vmem S128x3072 .bf16) (harg18 : arg18.IsWhole) (arg19 : Memref sig .tc .vmem S8x3072 .f32) (harg19 : arg19.IsWhole) (arg20 : Memref sig .tc .vmem S128x128 .f32) (harg20 : arg20.IsWhole) (hc0 : cond0_0 i) (hc1 : ¬cond0_1 i) (hc2 : cond0_2 i) (hc3 : ¬cond0_3 i)
    (x0 : Vec F S1x128x3072 .fp8e4m3) (x1 : Vec F S2x1024 .f32) (x2 : Vec F S1x128x3072 .bf16) (x3 : Vec F S1x128x3072 .fp8e5m2) (x4 : Vec F S2x1024 .f32) (x5 : Vec F S1x128x3072 .fp8e5m2) (x6 : Vec F S2x1024 .f32) (x7 : Vec F S2x3072 .f32) :
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0_adaln_backward i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    intro E K
    simp only [cc0_adaln_backward_eq_skeleton]; unfold cc0_adaln_backward_skel
    simp only [k0_part219_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part220_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part221_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.Kernel.Gen

end
-- ==== Proof.BitsRunB.lean ====
/- The bit-exact kernel's body run once, in case B of its conditionals (first or second sample, first or later block). The run modules
   form a chain, each importing the one before. -/
module

public import proofs.«01_k».proof.Proof.BitsRunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: checking it walks past the default budget)
set_option maxHeartbeats 12992000 in
/-- The body's triple IN CASE B (`scf.if` 0 taken, `scf.if` 1 not taken, `scf.if` 2 not taken, `scf.if` 3 taken: points 1, 2, … 7: 7 of 16): on whole staging memrefs — the inputs' at their contents,
    the FORGOTTEN outputs' (8, 9, 10, 11) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S1x128x3072 .fp8e4m3) (harg2 : arg2.IsWhole) (arg3 : Memref sig .tc .vmem S2x1024 .f32) (harg3 : arg3.IsWhole) (arg4 : Memref sig .tc .vmem S1x128x3072 .bf16) (harg4 : arg4.IsWhole) (arg5 : Memref sig .tc .vmem S1x128x3072 .fp8e5m2) (harg5 : arg5.IsWhole) (arg6 : Memref sig .tc .vmem S2x1024 .f32) (harg6 : arg6.IsWhole) (arg7 : Memref sig .tc .vmem S1x128x3072 .fp8e5m2) (harg7 : arg7.IsWhole) (arg8 : Memref sig .tc .vmem S2x1024 .f32) (harg8 : arg8.IsWhole) (arg9 : Memref sig .tc .vmem S2x3072 .f32) (harg9 : arg9.IsWhole) (arg10 : Memref sig .tc .vmem S1x3x3072 .f32) (harg10 : arg10.IsWhole) (arg11 : Memref sig .tc .vmem S1x1x3x3072 .f32) (harg11 : arg11.IsWhole) (arg12 : Memref sig .tc .vmem S1x128x3072 .fp8e5m2) (harg12 : arg12.IsWhole) (arg13 : Memref sig .tc .vmem S2x1024 .f32) (harg13 : arg13.IsWhole) (arg14 : Memref sig .tc .vmem S1x3072 .f32) (harg14 : arg14.IsWhole) (arg15 : Memref sig .tc .vmem S32x3072 .f32) (harg15 : arg15.IsWhole) (arg16 : Memref sig .tc .vmem S32x3072 .f32) (harg16 : arg16.IsWhole) (arg17 : Memref sig .tc .vmem S128x3072 .bf16) (harg17 : arg17.IsWhole) (arg18 : Memref sig .tc .vmem S128x3072 .bf16) (harg18 : arg18.IsWhole) (arg19 : Memref sig .tc .vmem S8x3072 .f32) (harg19 : arg19.IsWhole) (arg20 : Memref sig .tc .vmem S128x128 .f32) (harg20 : arg20.IsWhole) (hc0 : cond0_0 i) (hc1 : ¬cond0_1 i) (hc2 : ¬cond0_2 i) (hc3 : cond0_3 i)
    (x0 : Vec F S1x128x3072 .fp8e4m3) (x1 : Vec F S2x1024 .f32) (x2 : Vec F S1x128x3072 .bf16) (x3 : Vec F S1x128x3072 .fp8e5m2) (x4 : Vec F S2x1024 .f32) (x5 : Vec F S1x128x3072 .fp8e5m2) (x6 : Vec F S2x1024 .f32) (x7 : Vec F S2x3072 .f32) :
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0_adaln_backward i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    intro E K
    simp only [cc0_adaln_backward_eq_skeleton]; unfold cc0_adaln_backward_skel
    simp only [k0_part219_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part220_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part221_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.Kernel.Gen

end
-- ==== Proof.BitsRunC.lean ====
/- The bit-exact kernel's body run once, in case C of its conditionals (first or second sample, first or later block). The run modules
   form a chain, each importing the one before. -/
module

public import proofs.«01_k».proof.Proof.BitsRunB

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: checking it walks past the default budget)
set_option maxHeartbeats 12988000 in
/-- The body's triple IN CASE C (`scf.if` 0 not taken, `scf.if` 1 taken, `scf.if` 2 taken, `scf.if` 3 not taken: points 8): on whole staging memrefs — the inputs' at their contents,
    the FORGOTTEN outputs' (8, 9, 10, 11) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_C (c : Dev nD) (i : grid0.Coords) (arg2 : Memref sig .tc .vmem S1x128x3072 .fp8e4m3) (harg2 : arg2.IsWhole) (arg3 : Memref sig .tc .vmem S2x1024 .f32) (harg3 : arg3.IsWhole) (arg4 : Memref sig .tc .vmem S1x128x3072 .bf16) (harg4 : arg4.IsWhole) (arg5 : Memref sig .tc .vmem S1x128x3072 .fp8e5m2) (harg5 : arg5.IsWhole) (arg6 : Memref sig .tc .vmem S2x1024 .f32) (harg6 : arg6.IsWhole) (arg7 : Memref sig .tc .vmem S1x128x3072 .fp8e5m2) (harg7 : arg7.IsWhole) (arg8 : Memref sig .tc .vmem S2x1024 .f32) (harg8 : arg8.IsWhole) (arg9 : Memref sig .tc .vmem S2x3072 .f32) (harg9 : arg9.IsWhole) (arg10 : Memref sig .tc .vmem S1x3x3072 .f32) (harg10 : arg10.IsWhole) (arg11 : Memref sig .tc .vmem S1x1x3x3072 .f32) (harg11 : arg11.IsWhole) (arg12 : Memref sig .tc .vmem S1x128x3072 .fp8e5m2) (harg12 : arg12.IsWhole) (arg13 : Memref sig .tc .vmem S2x1024 .f32) (harg13 : arg13.IsWhole) (arg14 : Memref sig .tc .vmem S1x3072 .f32) (harg14 : arg14.IsWhole) (arg15 : Memref sig .tc .vmem S32x3072 .f32) (harg15 : arg15.IsWhole) (arg16 : Memref sig .tc .vmem S32x3072 .f32) (harg16 : arg16.IsWhole) (arg17 : Memref sig .tc .vmem S128x3072 .bf16) (harg17 : arg17.IsWhole) (arg18 : Memref sig .tc .vmem S128x3072 .bf16) (harg18 : arg18.IsWhole) (arg19 : Memref sig .tc .vmem S8x3072 .f32) (harg19 : arg19.IsWhole) (arg20 : Memref sig .tc .vmem S128x128 .f32) (harg20 : arg20.IsWhole) (hc0 : ¬cond0_0 i) (hc1 : cond0_1 i) (hc2 : cond0_2 i) (hc3 : ¬cond0_3 i)
    (x0 : Vec F S1x128x3072 .fp8e4m3) (x1 : Vec F S2x1024 .f32) (x2 : Vec F S1x128x3072 .bf16) (x3 : Vec F S1x128x3072 .fp8e5m2) (x4 : Vec F S2x1024 .f32) (x5 : Vec F S1x128x3072 .fp8e5m2) (x6 : Vec F S2x1024 .f32) (x7 : Vec F S2x3072 .f32) :
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0_adaln_backward i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    intro E K
    simp only [cc0_adaln_backward_eq_skeleton]; unfold cc0_adaln_backward_skel
    simp only [k0_part219_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part220_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part221_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.Kernel.Gen

end
-- ==== Proof.BitsRunD.lean ====
/- The bit-exact kernel's body run once, in case D of its conditionals (first or second sample, first or later block). The run modules
   form a chain, each importing the one before. -/
module

public import proofs.«01_k».proof.Proof.BitsRunC

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: checking it walks past the default budget)
set_option maxHeartbeats 12992000 in
/-- The body's triple IN CASE D (`scf.if` 0 not taken, `scf.if` 1 taken, `scf.if` 2 not taken, `scf.if` 3 taken: points 9, 10, … 15: 7 of 16): on whole staging memrefs — the inputs' at their contents,
    the FORGOTTEN outputs' (8, 9, 10, 11) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_D (c : Dev nD) (i : grid0.Coords) (arg2 : Memref sig .tc .vmem S1x128x3072 .fp8e4m3) (harg2 : arg2.IsWhole) (arg3 : Memref sig .tc .vmem S2x1024 .f32) (harg3 : arg3.IsWhole) (arg4 : Memref sig .tc .vmem S1x128x3072 .bf16) (harg4 : arg4.IsWhole) (arg5 : Memref sig .tc .vmem S1x128x3072 .fp8e5m2) (harg5 : arg5.IsWhole) (arg6 : Memref sig .tc .vmem S2x1024 .f32) (harg6 : arg6.IsWhole) (arg7 : Memref sig .tc .vmem S1x128x3072 .fp8e5m2) (harg7 : arg7.IsWhole) (arg8 : Memref sig .tc .vmem S2x1024 .f32) (harg8 : arg8.IsWhole) (arg9 : Memref sig .tc .vmem S2x3072 .f32) (harg9 : arg9.IsWhole) (arg10 : Memref sig .tc .vmem S1x3x3072 .f32) (harg10 : arg10.IsWhole) (arg11 : Memref sig .tc .vmem S1x1x3x3072 .f32) (harg11 : arg11.IsWhole) (arg12 : Memref sig .tc .vmem S1x128x3072 .fp8e5m2) (harg12 : arg12.IsWhole) (arg13 : Memref sig .tc .vmem S2x1024 .f32) (harg13 : arg13.IsWhole) (arg14 : Memref sig .tc .vmem S1x3072 .f32) (harg14 : arg14.IsWhole) (arg15 : Memref sig .tc .vmem S32x3072 .f32) (harg15 : arg15.IsWhole) (arg16 : Memref sig .tc .vmem S32x3072 .f32) (harg16 : arg16.IsWhole) (arg17 : Memref sig .tc .vmem S128x3072 .bf16) (harg17 : arg17.IsWhole) (arg18 : Memref sig .tc .vmem S128x3072 .bf16) (harg18 : arg18.IsWhole) (arg19 : Memref sig .tc .vmem S8x3072 .f32) (harg19 : arg19.IsWhole) (arg20 : Memref sig .tc .vmem S128x128 .f32) (harg20 : arg20.IsWhole) (hc0 : ¬cond0_0 i) (hc1 : cond0_1 i) (hc2 : ¬cond0_2 i) (hc3 : cond0_3 i)
    (x0 : Vec F S1x128x3072 .fp8e4m3) (x1 : Vec F S2x1024 .f32) (x2 : Vec F S1x128x3072 .bf16) (x3 : Vec F S1x128x3072 .fp8e5m2) (x4 : Vec F S2x1024 .f32) (x5 : Vec F S1x128x3072 .fp8e5m2) (x6 : Vec F S2x1024 .f32) (x7 : Vec F S2x3072 .f32) :
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0_adaln_backward i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    intro E K
    simp only [cc0_adaln_backward_eq_skeleton]; unfold cc0_adaln_backward_skel
    simp only [k0_part219_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part220_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part221_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.Kernel.Gen

end
-- ==== Proof.BitsFrame.lean ====
/- The frame of the bit-exact kernel: it runs to the end and keeps its arguments. What it leaves in its results is not named here. -/
module

public import proofs.«01_k».proof.Proof.BitsRunD
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## The pipeline's proof data -/

/-- The output windows this certificate FORGETS (8, 9, 10, 11): nothing reads what the kernel leaves in them, so nothing
    of it is named (Lib/Pipeline/Dat.lean `Dat.toRForget`). -/
def forgets0 : Fin 12 → Bool := fun w => w.val == 8 || w.val == 9 || w.val == 10 || w.val == 11

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

set_option maxHeartbeats 6400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 16 := lt_of_lt_of_eq t.isLt (show cfg0.N = 16 from N_0)
  by_cases h0 : t.val < 8
  · by_cases h1 : 8 ≤ t.val
    · exfalso; omega
    · by_cases h2 : t.val % 8 = 0
      · by_cases h3 : 1 ≤ t.val % 8
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
          iapply ((kernelRun0_A c (grid0.coords t) _ _ _ _ _ _ _ _ _ _ _ _ _ _ _ _ _ _ _ _ _ _ _ _ _ _ _ _ _ _ _ _ _ _ _ _ _ _ ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexists _; iexact H9
          isplitl [H10]; · iexists _; iexact H10
          isplitl [H11]; · iexists _; iexact H11
          isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          iintro ⟨H0, H1, H2, H3, H4, H5, H6, H7, H8, H9, H10, H11, HS0, HS1, HS2, HS3, HS4, HS5, HS6⟩
          isplitl [HS0 HS1 HS2 HS3 HS4 HS5 HS6 Hg]
          · isplitl [HS0 HS1 HS2 HS3 HS4 HS5 HS6]
            · isplitl [HS0]
              · iexact HS0
              isplitl [HS1]
              · iexact HS1
              isplitl [HS2]
              · iexact HS2
              isplitl [HS3]
              · iexact HS3
              isplitl [HS4]
              · iexact HS4
              isplitl [HS5]
              · iexact HS5
              iexact HS6
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          iexact H11
      · by_cases h3 : 1 ≤ t.val % 8
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
          iapply ((kernelRun0_B c (grid0.coords t) _ _ _ _ _ _ _ _ _ _ _ _ _ _ _ _ _ _ _ _ _ _ _ _ _ _ _ _ _ _ _ _ _ _ _ _ _ _ ((hcond0_0 t).mpr h0) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexists _; iexact H9
          isplitl [H10]; · iexists _; iexact H10
          isplitl [H11]; · iexists _; iexact H11
          isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          iintro ⟨H0, H1, H2, H3, H4, H5, H6, H7, H8, H9, H10, H11, HS0, HS1, HS2, HS3, HS4, HS5, HS6⟩
          isplitl [HS0 HS1 HS2 HS3 HS4 HS5 HS6 Hg]
          · isplitl [HS0 HS1 HS2 HS3 HS4 HS5 HS6]
            · isplitl [HS0]
              · iexact HS0
              isplitl [HS1]
              · iexact HS1
              isplitl [HS2]
              · iexact HS2
              isplitl [HS3]
              · iexact HS3
              isplitl [HS4]
              · iexact HS4
              isplitl [HS5]
              · iexact HS5
              iexact HS6
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          iexact H11
        · exfalso; omega
  · by_cases h1 : 8 ≤ t.val
    · by_cases h2 : t.val % 8 = 0
      · by_cases h3 : 1 ≤ t.val % 8
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
          iapply ((kernelRun0_C c (grid0.coords t) _ _ _ _ _ _ _ _ _ _ _ _ _ _ _ _ _ _ _ _ _ _ _ _ _ _ _ _ _ _ _ _ _ _ _ _ _ _ (fun h => h0 ((hcond0_0 t).mp h)) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexists _; iexact H9
          isplitl [H10]; · iexists _; iexact H10
          isplitl [H11]; · iexists _; iexact H11
          isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          iintro ⟨H0, H1, H2, H3, H4, H5, H6, H7, H8, H9, H10, H11, HS0, HS1, HS2, HS3, HS4, HS5, HS6⟩
          isplitl [HS0 HS1 HS2 HS3 HS4 HS5 HS6 Hg]
          · isplitl [HS0 HS1 HS2 HS3 HS4 HS5 HS6]
            · isplitl [HS0]
              · iexact HS0
              isplitl [HS1]
              · iexact HS1
              isplitl [HS2]
              · iexact HS2
              isplitl [HS3]
              · iexact HS3
              isplitl [HS4]
              · iexact HS4
              isplitl [HS5]
              · iexact HS5
              iexact HS6
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          iexact H11
      · by_cases h3 : 1 ≤ t.val % 8
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
          iapply ((kernelRun0_D c (grid0.coords t) _ _ _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexists _; iexact H9
          isplitl [H10]; · iexists _; iexact H10
          isplitl [H11]; · iexists _; iexact H11
          isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          iintro ⟨H0, H1, H2, H3, H4, H5, H6, H7, H8, H9, H10, H11, HS0, HS1, HS2, HS3, HS4, HS5, HS6⟩
          isplitl [HS0 HS1 HS2 HS3 HS4 HS5 HS6 Hg]
          · isplitl [HS0 HS1 HS2 HS3 HS4 HS5 HS6]
            · isplitl [HS0]
              · iexact HS0
              isplitl [HS1]
              · iexact HS1
              isplitl [HS2]
              · iexact HS2
              isplitl [HS3]
              · iexact HS3
              isplitl [HS4]
              · iexact HS4
              isplitl [HS5]
              · iexact HS5
              iexact HS6
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          iexact H11
        · exfalso; omega
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 8, 9, 10, 11) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel.Gen

end
-- ==== Proof.KernelRun.lean ====
/- The kernel's body run once: from the blocks of a grid point to the stores the body makes. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 13016000 in
/-- The body's run at one grid point: what it loads, and the stores it makes, in order. -/
noncomputable def kernelRun (c : Dev nD) (i : grid0.Coords) (arg2 : Memref sig .tc .vmem S1x128x3072 .fp8e4m3) (harg2 : arg2.IsWhole) (arg3 : Memref sig .tc .vmem S2x1024 .f32) (harg3 : arg3.IsWhole) (arg4 : Memref sig .tc .vmem S1x128x3072 .bf16) (harg4 : arg4.IsWhole) (arg5 : Memref sig .tc .vmem S1x128x3072 .fp8e5m2) (harg5 : arg5.IsWhole) (arg6 : Memref sig .tc .vmem S2x1024 .f32) (harg6 : arg6.IsWhole) (arg7 : Memref sig .tc .vmem S1x128x3072 .fp8e5m2) (harg7 : arg7.IsWhole) (arg8 : Memref sig .tc .vmem S2x1024 .f32) (harg8 : arg8.IsWhole) (arg9 : Memref sig .tc .vmem S2x3072 .f32) (harg9 : arg9.IsWhole) (arg10 : Memref sig .tc .vmem S1x3x3072 .f32) (harg10 : arg10.IsWhole) (arg11 : Memref sig .tc .vmem S1x1x3x3072 .f32) (harg11 : arg11.IsWhole) (arg12 : Memref sig .tc .vmem S1x128x3072 .fp8e5m2) (harg12 : arg12.IsWhole) (arg13 : Memref sig .tc .vmem S2x1024 .f32) (harg13 : arg13.IsWhole) (arg14 : Memref sig .tc .vmem S1x3072 .f32) (harg14 : arg14.IsWhole) (arg15 : Memref sig .tc .vmem S32x3072 .f32) (harg15 : arg15.IsWhole) (arg16 : Memref sig .tc .vmem S32x3072 .f32) (harg16 : arg16.IsWhole) (arg17 : Memref sig .tc .vmem S128x3072 .bf16) (harg17 : arg17.IsWhole) (arg18 : Memref sig .tc .vmem S128x3072 .bf16) (harg18 : arg18.IsWhole) (arg19 : Memref sig .tc .vmem S8x3072 .f32) (harg19 : arg19.IsWhole) (arg20 : Memref sig .tc .vmem S128x128 .f32) (harg20 : arg20.IsWhole)
    (x0 : Vec F S1x128x3072 .fp8e4m3) (x1 : Vec F S2x1024 .f32) (x2 : Vec F S1x128x3072 .bf16) (x3 : Vec F S1x128x3072 .fp8e5m2) (x4 : Vec F S2x1024 .f32) (x5 : Vec F S1x128x3072 .fp8e5m2) (x6 : Vec F S2x1024 .f32) (x7 : Vec F S2x3072 .f32) (x8 : Vec F S1x3x3072 .f32) (x11 : Vec F S2x1024 .f32) (xs6 : Vec F S128x128 .f32) :
    Σ' (C8 : Buf (Elt F) (arg10.view.loc (c : Thread nD τ))), Σ' (L9 : List (View.Piece (Elt F) S1x1x3x3072 .f32)), Σ' (L10 : List (View.Piece (Elt F) S1x128x3072 .fp8e5m2)), Σ' (C11 : Buf (Elt F) (arg13.view.loc (c : Thread nD τ))), Σ' (LT0 : List (View.Piece (Elt F) S1x3072 .f32)), Σ' (LT1 : List (View.Piece (Elt F) S32x3072 .f32)), Σ' (LT2 : List (View.Piece (Elt F) S32x3072 .f32)), Σ' (LT3 : List (View.Piece (Elt F) S128x3072 .bf16)), Σ' (LT4 : List (View.Piece (Elt F) S128x3072 .bf16)), Σ' (LT5 : List (View.Piece (Elt F) S8x3072 .f32)), { LT6 : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare xs6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (arg10.view.loc (c : Thread nD τ) ↦[arg10.view.set]{fullShare} (C8 : Buf (Elt F) (arg10.view.loc (c : Thread nD τ)))) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (arg13.view.loc (c : Thread nD τ) ↦[arg13.view.set]{fullShare} (C11 : Buf (Elt F) (arg13.view.loc (c : Thread nD τ)))) ∗ (∃ f, arg14.view.loc (c : Thread nD τ) ↦[arg14.view.set]{fullShare} arg14.view.writes (Elt F) f LT0) ∗ (∃ f, arg15.view.loc (c : Thread nD τ) ↦[arg15.view.set]{fullShare} arg15.view.writes (Elt F) f LT1) ∗ (∃ f, arg16.view.loc (c : Thread nD τ) ↦[arg16.view.set]{fullShare} arg16.view.writes (Elt F) f LT2) ∗ (∃ f, arg17.view.loc (c : Thread nD τ) ↦[arg17.view.set]{fullShare} arg17.view.writes (Elt F) f LT3) ∗ (∃ f, arg18.view.loc (c : Thread nD τ) ↦[arg18.view.set]{fullShare} arg18.view.writes (Elt F) f LT4) ∗ (∃ f, arg19.view.loc (c : Thread nD τ) ↦[arg19.view.set]{fullShare} arg19.view.writes (Elt F) f LT5) ∗ (∃ f, arg20.view.loc (c : Thread nD τ) ↦[arg20.view.set]{fullShare} arg20.view.writes (Elt F) f LT6)) -∗ K ⟨⟩))
          ⊢ wp frame (wpE (defs₀ (F := F)) Variants.none c none) E (cc0_adaln_backward i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, ?_, ?_, ?_, ?_, ?_, ?_, fun E K => ?run⟩
  case run =>
    simp only [cc0_adaln_backward_eq_skeleton]; unfold cc0_adaln_backward_skel
    simp only [k0_part219_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part220_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part221_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton]
    unfold owns
    iintro ⟨⟨%f2, %hf2, H0⟩, ⟨%f3, %hf3, H1⟩, ⟨%f4, %hf4, H2⟩, ⟨%f5, %hf5, H3⟩, ⟨%f6, %hf6, H4⟩, ⟨%f7, %hf7, H5⟩, ⟨%f8, %hf8, H6⟩, ⟨%f9, %hf9, H7⟩, ⟨%f10, %hf10, H8⟩, ⟨%d11, %f11, -, H9⟩, ⟨%d12, %f12, -, H10⟩, ⟨%f13, %hf13, H11⟩, ⟨%d14, %f14, -, HS0⟩, ⟨%d15, %f15, -, HS1⟩, ⟨%d16, %f16, -, HS2⟩, ⟨%d17, %f17, -, HS3⟩, ⟨%d18, %f18, -, HS4⟩, ⟨%d19, %f19, -, HS5⟩, ⟨%f20, %hf20, HS6⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg13.eq_unread hf13; obtain rfl := harg20.eq_unread hf20
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexact H8
    isplitl [H9]; · iexists _; iexact H9
    isplitl [H10]; · iexists _; iexact H10
    isplitl [H11]; · iexact H11
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexists _; iexact HS6

end Cert.KernelIdeal.Gen

end
-- ==== Proof.KernelWords.lean ====
/- What one grid point of the kernel computes, chunk by chunk: strip `s` (32 rows of the 128) and column chunk `j`
   (128 lanes of the 3072) of every value the body makes, as functions of `s` and `j`. -/
module

public import proofs.«01_k».proof.Proof.KernelRun

@[expose] public section

noncomputable section

namespace Cert.KernelIdeal.Gen

open Idealize.ShloMosaic Idealize.ShloMosaic.TcCoe Idealize.SL.Sem

variable {F : FTy → Type} [FloatOps F] [Named F]

/-- The memrefs one run of the body is handed, the contents of its inputs, and what the buffers it reads before
    storing them whole held before it. -/
structure Body (F : FTy → Type) where
  c : Dev nD
  i : grid0.Coords
  arg2 : Memref sig .tc .vmem S1x128x3072 .fp8e4m3
  harg2 : arg2.IsWhole
  arg3 : Memref sig .tc .vmem S2x1024 .f32
  harg3 : arg3.IsWhole
  arg4 : Memref sig .tc .vmem S1x128x3072 .bf16
  harg4 : arg4.IsWhole
  arg5 : Memref sig .tc .vmem S1x128x3072 .fp8e5m2
  harg5 : arg5.IsWhole
  arg6 : Memref sig .tc .vmem S2x1024 .f32
  harg6 : arg6.IsWhole
  arg7 : Memref sig .tc .vmem S1x128x3072 .fp8e5m2
  harg7 : arg7.IsWhole
  arg8 : Memref sig .tc .vmem S2x1024 .f32
  harg8 : arg8.IsWhole
  arg9 : Memref sig .tc .vmem S2x3072 .f32
  harg9 : arg9.IsWhole
  arg10 : Memref sig .tc .vmem S1x3x3072 .f32
  harg10 : arg10.IsWhole
  arg11 : Memref sig .tc .vmem S1x1x3x3072 .f32
  harg11 : arg11.IsWhole
  arg12 : Memref sig .tc .vmem S1x128x3072 .fp8e5m2
  harg12 : arg12.IsWhole
  arg13 : Memref sig .tc .vmem S2x1024 .f32
  harg13 : arg13.IsWhole
  arg14 : Memref sig .tc .vmem S1x3072 .f32
  harg14 : arg14.IsWhole
  arg15 : Memref sig .tc .vmem S32x3072 .f32
  harg15 : arg15.IsWhole
  arg16 : Memref sig .tc .vmem S32x3072 .f32
  harg16 : arg16.IsWhole
  arg17 : Memref sig .tc .vmem S128x3072 .bf16
  harg17 : arg17.IsWhole
  arg18 : Memref sig .tc .vmem S128x3072 .bf16
  harg18 : arg18.IsWhole
  arg19 : Memref sig .tc .vmem S8x3072 .f32
  harg19 : arg19.IsWhole
  arg20 : Memref sig .tc .vmem S128x128 .f32
  harg20 : arg20.IsWhole
  x0 : Vec F S1x128x3072 .fp8e4m3
  x1 : Vec F S2x1024 .f32
  x2 : Vec F S1x128x3072 .bf16
  x3 : Vec F S1x128x3072 .fp8e5m2
  x4 : Vec F S2x1024 .f32
  x5 : Vec F S1x128x3072 .fp8e5m2
  x6 : Vec F S2x1024 .f32
  x7 : Vec F S2x3072 .f32
  x8 : Vec F S1x3x3072 .f32
  x11 : Vec F S2x1024 .f32
  xs6 : Vec F S128x128 .f32

variable (B : Body F)

/-- The body's run, on the memrefs and contents `B`. -/
abbrev Body.run := kernelRun (F := F) B.c B.i B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.x0 B.x1 B.x2 B.x3 B.x4 B.x5 B.x6 B.x7 B.x8 B.x11 B.xs6

/-! ## Places -/

theorem inbS (s j : ℕ) : ∀ a, (![0, 32 * (s % 4), 128 * (j % 24)] : Fin 3 → Nat) a + S1x32x128.size a ≤ S1x128x3072.size a := by
  intro a; fin_cases a <;> simp [S1x32x128, S1x128x3072] <;> omega
theorem inbR (s j : ℕ) : ∀ a, (![32 * (s % 4), 128 * (j % 24)] : Fin 2 → Nat) a + S32x128.size a ≤ S128x3072.size a := by
  intro a; fin_cases a <;> simp [S32x128, S128x3072] <;> omega
theorem inbC (j : ℕ) : ∀ a, (![0, 128 * (j % 24)] : Fin 2 → Nat) a + S32x128.size a ≤ S32x3072.size a := by
  intro a; fin_cases a <;> simp [S32x128, S32x3072] <;> omega
theorem inbM (j : ℕ) : ∀ a, (![0, 128 * (j % 24)] : Fin 2 → Nat) a + S1x128.size a ≤ S1x3072.size a := by
  intro a; fin_cases a <;> simp [S1x128, S1x3072] <;> omega
theorem inbG (j : ℕ) : ∀ a, (![0, 128 * (j % 24)] : Fin 2 → Nat) a + S8x128.size a ≤ S8x3072.size a := by
  intro a; fin_cases a <;> simp [S8x128, S8x3072] <;> omega
theorem inbW (s k : ℕ) : ∀ a, (![32 * (s % 4), k % 3] : Fin 2 → Nat) a + S32x1.size a ≤ S128x128.size a := by
  intro a; fin_cases a <;> simp [S32x1, S128x128] <;> omega
theorem slicesCol (s : ℕ) : S128x1.Slices ![32 * (s % 4), 0] S32x1 := by
  have h : s % 4 < 4 := Nat.mod_lt _ (by decide)
  generalize s % 4 = r at h
  interval_cases r <;> decide

/-- Rows of strip `s`, lanes of chunk `j`, of an input block or of the codes. -/
abbrev rS (s j : ℕ) : Rect S1x128x3072 := Rect.unit (s := S1x128x3072) ![0, 32 * (s % 4), 128 * (j % 24)] S1x32x128.size (inbS s j)
abbrev rR (s j : ℕ) : Rect S128x3072 := Rect.unit (s := S128x3072) ![32 * (s % 4), 128 * (j % 24)] S32x128.size (inbR s j)
abbrev rC (j : ℕ) : Rect S32x3072 := Rect.unit (s := S32x3072) ![0, 128 * (j % 24)] S32x128.size (inbC j)
abbrev rM (j : ℕ) : Rect S1x3072 := Rect.unit (s := S1x3072) ![0, 128 * (j % 24)] S1x128.size (inbM j)
abbrev rG (j : ℕ) : Rect S8x3072 := Rect.unit (s := S8x3072) ![0, 128 * (j % 24)] S8x128.size (inbG j)
abbrev rW (s k : ℕ) : Rect S128x128 := Rect.unit (s := S128x128) ![32 * (s % 4), k % 3] S32x1.size (inbW s k)

/-! ## The sample's row of a table, and a per-token table's column -/

/-- `1 + mod_scale[b]`. -/
def modOf (i : grid0.Coords) (v : Vec F S2x3072 .f32) : FVec F S1x3072 .f32 :=
  addf (broadcast S1x3072 (Scalar.ofBits .f32 0x3F800000#32))
    (Scalar.select (Scalar.cmpi .eq (BitVec.ofNat 32 (i 0)) 0#32)
      (extractStridedSlice S1x3072 ![0, 0] v slices_S2x3072_o0_0_S1x3072)
      (extractStridedSlice S1x3072 ![1, 0] v slices_S2x3072_o1_0_S1x3072))
def wMod : FVec F S1x3072 .f32 := modOf B.i (View.readAt (Elt F) B.arg9.view (Rect.unit (s := S2x3072) ![0, 0] S2x3072.size inb_S2x3072_S2x3072_0_0).toLoadRect (B.harg9.unread B.x7))

/-- The block's 128 entries of the sample's row of a per-token table, as a column. -/
def colOf (i : grid0.Coords) (v : Vec F S2x128 .f32) : FVec F S128x1 .f32 :=
  extractStridedSlice S128x1 ![0, 0] (transpose S128x128 [1, 0] (broadcastTo S128x128 (shapeCast S1x128
    (Scalar.select (Scalar.cmpi .eq (BitVec.ofNat 32 (i 0)) 0#32)
      (extractStridedSlice S1x128 ![0, 0] v slices_S2x128_o0_0_S1x128)
      (extractStridedSlice S1x128 ![1, 0] v slices_S2x128_o1_0_S1x128)) shapeCasts_S1x128_S1x128)
    broadcasts_S1x128_S128x128) transposes_S128x128_p1_0_S128x128) slices_S128x128_o0_0_S128x1

/-- The tokens of the block in a per-token table. -/
abbrev rT (i : grid0.Coords) : Rect S2x1024 := Rect.unit (s := S2x1024) (k0_off1 i) S2x128.size (k0_off1_inb i)

/-- Strip `s` of the columns of `x_scale`, `dy_scale`, `dh_scale`. -/
def wA (s : ℕ) : FVec F S32x1 .f32 := extractStridedSlice S32x1 ![32 * (s % 4), 0] (colOf B.i (View.readAt (Elt F) B.arg3.view (rT B.i).toLoadRect (B.harg3.unread B.x1))) (slicesCol s)
def wB (s : ℕ) : FVec F S32x1 .f32 := extractStridedSlice S32x1 ![32 * (s % 4), 0] (colOf B.i (View.readAt (Elt F) B.arg6.view (rT B.i).toLoadRect (B.harg6.unread B.x4))) (slicesCol s)
def wC (s : ℕ) : FVec F S32x1 .f32 := extractStridedSlice S32x1 ![32 * (s % 4), 0] (colOf B.i (View.readAt (Elt F) B.arg8.view (rT B.i).toLoadRect (B.harg8.unread B.x6))) (slicesCol s)

/-! ## The first pass over a strip -/

/-- The chunk's codes of `x`, of `dh`, of `dy`, and its `f_out`. -/
def wX8 (s j : ℕ) : FVec F S32x128 .fp8e4m3 := shapeCast S32x128 (View.readAt (Elt F) B.arg2.view (rS s j).toLoadRect (B.harg2.unread B.x0)) shapeCasts_S1x32x128_S32x128
def wH8 (s j : ℕ) : FVec F S32x128 .fp8e5m2 := shapeCast S32x128 (View.readAt (Elt F) B.arg7.view (rS s j).toLoadRect (B.harg7.unread B.x5)) shapeCasts_S1x32x128_S32x128
def wY8 (s j : ℕ) : FVec F S32x128 .fp8e5m2 := shapeCast S32x128 (View.readAt (Elt F) B.arg5.view (rS s j).toLoadRect (B.harg5.unread B.x3)) shapeCasts_S1x32x128_S32x128
def wF8 (s j : ℕ) : FVec F S32x128 .bf16 := shapeCast S32x128 (View.readAt (Elt F) B.arg4.view (rS s j).toLoadRect (B.harg4.unread B.x2)) shapeCasts_S1x32x128_S32x128

def wX (s j : ℕ) : FVec F S32x128 .f32 := extf .f32 (wX8 B s j) bitsLt_fp8e4m3_f32
/-- `dh * (1 + mod_scale)`. -/
def pMod : List (View.Piece (Elt F) S1x3072 .f32) :=
  [⟨Rect.unit (s := S1x3072) ![0, 0] S1x3072.size inb_S1x3072_S1x3072_0_0, shapeCast S1x3072 (wMod B) shapeCasts_S1x3072_S1x3072⟩]
def wU (s j : ℕ) : FVec F S32x128 .f32 :=
  mulf (extf .f32 (wH8 B s j) bitsLt_fp8e5m2_f32)
    (broadcastTo S32x128 (B.arg14.view.readCov (pMod B) (rM j).toLoadRect) broadcasts_S1x128_S32x128)

def wZero : FVec F S32x128 .f32 := broadcast S32x128 (Scalar.ofBits .f32 0x00000000#32)
/-- The running sums over the first `n` chunks: of `x`, `x²`, `u`, `x·u`. -/
def wSX (s : ℕ) : ℕ → FVec F S32x128 .f32 | 0 => wZero | n + 1 => addf (wSX s n) (wX B s n)
def wSXX (s : ℕ) : ℕ → FVec F S32x128 .f32 | 0 => wZero | n + 1 => addf (wSXX s n) (mulf (wX B s n) (wX B s n))
def wSU (s : ℕ) : ℕ → FVec F S32x128 .f32 | 0 => wZero | n + 1 => addf (wSU s n) (wU B s n)
def wSXU (s : ℕ) : ℕ → FVec F S32x128 .f32 | 0 => wZero | n + 1 => addf (wSXU s n) (mulf (wX B s n) (wU B s n))

/-- The first `n` stores (of 96, strip after strip) into the strip's `u`, the block's `dh` and its `x·dh`. -/
def pU : ℕ → List (View.Piece (Elt F) S32x3072 .f32)
  | 0 => []
  | n + 1 => ⟨rC n, shapeCast S32x128 (wU B (n / 24) n) shapeCasts_S32x128_S32x128⟩ :: pU n
def pH : ℕ → List (View.Piece (Elt F) S128x3072 .bf16)
  | 0 => []
  | n + 1 => ⟨rR (n / 24) n, shapeCast S32x128 (extf .bf16 (wH8 B (n / 24) n) bitsLt_fp8e5m2_bf16) shapeCasts_S32x128_S32x128⟩ :: pH n
def pP : ℕ → List (View.Piece (Elt F) S128x3072 .bf16)
  | 0 => []
  | n + 1 => ⟨rR (n / 24) n, shapeCast S32x128 (mulf (extf .bf16 (wX8 B (n / 24) n) bitsLt_fp8e4m3_bf16) (extf .bf16 (wH8 B (n / 24) n) bitsLt_fp8e5m2_bf16)) shapeCasts_S32x128_S32x128⟩ :: pP n

/-! ## The strip's statistics -/

/-- The sum of a row's 128 lanes. -/
def rowSum (v : FVec F S32x128 .f32) : FVec F S32x1 .f32 :=
  shapeCast S32x1 (multiReduction .add [1] S32 v 0x00000000#32 reduces_S32x128_S32 (.inl rfl) rfl) shapeCasts_S32_S32x1

def expoStep (v : FVec F S32x1 .f32) (k : BitVec 32) (e : IVec S32x1 32) : IVec S32x1 32 :=
  select (cmpf .ole (bitcastToFloat .f32 (addi e (broadcast S32x1 k))) v) (addi e (broadcast S32x1 k)) e
/-- The exponent field of `v`, bit by bit. -/
def expo (v : FVec F S32x1 .f32) : IVec S32x1 32 :=
  expoStep v 0x00800000#32 (expoStep v 0x01000000#32 (expoStep v 0x02000000#32 (expoStep v 0x04000000#32 (expoStep v 0x08000000#32 (expoStep v 0x10000000#32 (expoStep v 0x20000000#32 (expoStep v 0x40000000#32 (broadcast S32x1 0x00000000#32))))))))

def wTx (s : ℕ) : FVec F S32x1 .f32 := rowSum (wSX B s 24)
def wTxx (s : ℕ) : FVec F S32x1 .f32 := rowSum (wSXX B s 24)
def wMx (s : ℕ) : FVec F S32x1 .f32 := mulf (wTx B s) (broadcast S32x1 (Named.named κ "inv_n" 0x39AAAAAB#32))
def wMu (s : ℕ) : FVec F S32x1 .f32 := mulf (rowSum (wSU B s 24)) (broadcast S32x1 (Named.named κ "inv_n" 0x39AAAAAB#32))
def wMxu (s : ℕ) : FVec F S32x1 .f32 := mulf (rowSum (wSXU B s 24)) (broadcast S32x1 (Named.named κ "inv_n" 0x39AAAAAB#32))

/-- The leading twelve bits of `v`. -/
def hiPart (v : FVec F S32x1 .f32) : FVec F S32x1 .f32 :=
  let q := mulf v (mulf (bitcastToFloat .f32 (subi (broadcast S32x1 0x7F000000#32) (expo (absf v)))) (broadcast S32x1 (Scalar.ofBits .f32 0x45000000#32)))
  mulf (select (cmpf .olt q (broadcast S32x1 (Scalar.ofBits .f32 0x00000000#32))) (ceil q) (floor q))
    (mulf (bitcastToFloat .f32 (expo (absf v))) (broadcast S32x1 (Scalar.ofBits .f32 0x3A000000#32)))

/-- `3072 · Σx² − (Σx)²`, the square of `hi + lo` multiplied out. -/
def centred (t q hi lo : FVec F S32x1 .f32) : FVec F S32x1 .f32 :=
  subf (subf (addf (subf (mulf q (broadcast S32x1 (Scalar.ofBits .f32 0x45000000#32))) (mulf hi hi))
      (mulf q (broadcast S32x1 (Scalar.ofBits .f32 0x44800000#32))))
    (mulf (broadcast S32x1 (Scalar.ofBits .f32 0x40000000#32)) (mulf hi lo))) (mulf lo lo)

def wHi (s : ℕ) : FVec F S32x1 .f32 := hiPart (wTx B s)
def wLo (s : ℕ) : FVec F S32x1 .f32 := subf (wTx B s) (wHi B s)
def wRstd (s : ℕ) : FVec F S32x1 .f32 :=
  rsqrt (addf (mulf (mulf (centred (wTx B s) (wTxx B s) (wHi B s) (wLo B s)) (broadcast S32x1 (Named.named κ "inv_n2" 0x33E38E39#32))) (mulf (wA B s) (wA B s)))
    (broadcast S32x1 (Scalar.ofBits .f32 0x358637BD#32)))
def wRa (s : ℕ) : FVec F S32x1 .f32 := mulf (wRstd B s) (wA B s)
def wCra (s : ℕ) : FVec F S32x1 .f32 := mulf (wC B s) (wRa B s)
def wGx (s : ℕ) : FVec F S32x1 .f32 := mulf (wCra B s) (subf (wMxu B s) (mulf (wMx B s) (wMu B s)))
def wAlpha (s : ℕ) : FVec F S32x1 .f32 := mulf (wRstd B s) (wC B s)
def wBeta (s : ℕ) : FVec F S32x1 .f32 := mulf (mulf (wRstd B s) (wRa B s)) (wGx B s)
def wGamma (s : ℕ) : FVec F S32x1 .f32 := subf (mulf (wBeta B s) (wMx B s)) (mulf (wAlpha B s) (wMu B s))

/-- The three columns of weights of the strip's rows. -/
def pW : ℕ → List (View.Piece (Elt F) S128x128 .f32)
  | 0 => []
  | s + 1 =>
    ⟨rW s 2, shapeCast S32x1 (mulf (subf (broadcast S32x1 (Scalar.ofBits .f32 0x00000000#32)) (wCra B s)) (wMx B s)) shapeCasts_S32x1_S32x1⟩ ::
    ⟨rW s 1, shapeCast S32x1 (wCra B s) shapeCasts_S32x1_S32x1⟩ ::
    ⟨rW s 0, shapeCast S32x1 (wC B s) shapeCasts_S32x1_S32x1⟩ :: pW s

/-! ## The second pass -/

def wDy (s j : ℕ) : FVec F S32x128 .f32 := mulf (extf .f32 (wY8 B s j) bitsLt_fp8e5m2_f32) (broadcastTo S32x128 (wB B s) broadcasts_S32x1_S32x128)
def wGate (s j : ℕ) : FVec F S32x128 .f32 := mulf (wDy B s j) (extf .f32 (wF8 B s j) bitsLt_bf16_f32)
/-- The chunk's gate products summed over its rows, eight rows kept apart. -/
def fold8 (g : FVec F S32x128 .f32) : FVec F S8x128 .f32 :=
  addf (addf (extractStridedSlice S8x128 ![0, 0] g slices_S32x128_o0_0_S8x128) (extractStridedSlice S8x128 ![8, 0] g slices_S32x128_o8_0_S8x128))
    (addf (extractStridedSlice S8x128 ![16, 0] g slices_S32x128_o16_0_S8x128) (extractStridedSlice S8x128 ![24, 0] g slices_S32x128_o24_0_S8x128))
def pG : ℕ → List (View.Piece (Elt F) S8x3072 .f32)
  | 0 => [⟨Rect.unit (s := S8x3072) ![0, 0] S8x3072.size inb_S8x3072_S8x3072_0_0, shapeCast S8x3072 (broadcast S8x3072 (Scalar.ofBits .f32 0x00000000#32)) shapeCasts_S8x3072_S8x3072⟩]
  | n + 1 => ⟨rG n, shapeCast S8x128 (addf (B.arg19.view.readCov (pG n) (rG n).toLoadRect) (fold8 (wGate B (n / 24) n))) shapeCasts_S8x128_S8x128⟩ :: pG n

def wDx (s j : ℕ) : FVec F S32x128 .f32 :=
  addf (wDy B s j)
    (subf (addf (mulf (broadcastTo S32x128 (wAlpha B s) broadcasts_S32x1_S32x128) (B.arg15.view.readCov (pU B (24 * s + 24)) (rC j).toLoadRect))
        (broadcastTo S32x128 (wGamma B s) broadcasts_S32x1_S32x128))
      (mulf (broadcastTo S32x128 (wBeta B s) broadcasts_S32x1_S32x128) (wX B s j)))
def pD : ℕ → List (View.Piece (Elt F) S32x3072 .f32)
  | 0 => []
  | n + 1 => ⟨rC n, shapeCast S32x128 (wDx B (n / 24) (n % 24)) shapeCasts_S32x128_S32x128⟩ :: pD n
/-- The greatest |dx| so far, lane by lane. -/
def wAmax (s : ℕ) : ℕ → FVec F S32x128 .f32 | 0 => wZero | n + 1 => maximumf (wAmax s n) (absf (wDx B s n))

/-! ## The quantiser -/

def wZ (s : ℕ) : FVec F S32x1 .f32 :=
  mulf (shapeCast S32x1 (multiReduction .maximumf [1] S32 (wAmax B s 24) 0xFF800000#32 reduces_S32x128_S32 (.inl rfl) rfl) shapeCasts_S32_S32x1)
    (broadcast S32x1 (Scalar.ofBits .f32 0x37924925#32))
/-- The bits of the power of two above `z`. -/
def scaleBits (z : FVec F S32x1 .f32) : IVec S32x1 32 :=
  let e := minsi (expo z) (broadcast S32x1 0x77800000#32)
  select (cmpi .eq e (broadcast S32x1 0x00000000#32)) (broadcast S32x1 0x3F800000#32) (addi e (broadcast S32x1 0x00800000#32))
def wScale (s : ℕ) : FVec F S32x1 .f32 := bitcastToFloat .f32 (scaleBits (wZ B s))
def wInv (s : ℕ) : FVec F S32x1 .f32 := bitcastToFloat .f32 (subi (broadcast S32x1 0x7F000000#32) (scaleBits (wZ B s)))
/-- The chunk's codes, from the strip's `dx` and its inverse scale. -/
def codeOf (l : List (View.Piece (Elt F) S32x3072 .f32)) (inv : FVec F S32x1 .f32) (j : ℕ) : FVec F S32x128 .fp8e5m2 :=
  truncf .fp8e5m2 (minimumf (broadcast S32x128 (Scalar.ofBits .f32 0x47600000#32))
    (maximumf (broadcast S32x128 (Scalar.ofBits .f32 0xC7600000#32))
      (mulf (B.arg16.view.readCov l (rC j).toLoadRect) (broadcastTo S32x128 inv broadcasts_S32x1_S32x128)))) bitsLt_fp8e5m2_f32
def wCode (s j : ℕ) : FVec F S32x128 .fp8e5m2 := codeOf B (pD B (24 * s + 24)) (wInv B s) j
/-- The stores of codes, from the four strips' lists and inverse scales. -/
def pKof (l : ℕ → List (View.Piece (Elt F) S32x3072 .f32)) (inv : ℕ → FVec F S32x1 .f32) : ℕ → List (View.Piece (Elt F) S1x128x3072 .fp8e5m2)
  | 0 => []
  | n + 1 => ⟨rS (n / 24) n, shapeCast S1x32x128 (codeOf B (l (n / 24)) (inv (n / 24)) n) shapeCasts_S32x128_S1x32x128⟩ :: pKof l inv n
def sel4 {α : Type} (a b c d : α) : ℕ → α | 0 => a | 1 => b | 2 => c | _ => d
def pK : ℕ → List (View.Piece (Elt F) S1x128x3072 .fp8e5m2)
  | 0 => []
  | n + 1 => ⟨rS (n / 24) n, shapeCast S1x32x128 (wCode B (n / 24) n) shapeCasts_S32x128_S1x32x128⟩ :: pK n

/-- The block's scales as a row. -/
def wScaleRow : FVec F S1x128 .f32 := k0_pay1803 (wScale B 0) (wScale B 1) (wScale B 2) (wScale B 3)

/-! ## The block's gradient rows -/

/-- The weights as the body reads them back: its stores over what the buffer held. -/
def wW : Vec F S128x128 .f32 :=
  View.readAt (Elt F) B.arg20.view (Rect.unit (s := S128x128) ![0, 0] S128x128.size inb_S128x128_S128x128_0_0).toLoadRect (B.arg20.view.writes (Elt F) (B.harg20.unread B.xs6) (pW B 4))
def wHfull : Vec F S128x3072 .bf16 := B.arg18.view.readCov (pH B 96) (Rect.unit (s := S128x3072) ![0, 0] S128x3072.size inb_S128x3072_S128x3072_0_0).toLoadRect
def wPfull : Vec F S128x3072 .bf16 := B.arg17.view.readCov (pP B 96) (Rect.unit (s := S128x3072) ![0, 0] S128x3072.size inb_S128x3072_S128x3072_0_0).toLoadRect
def wGfull : Vec F S8x3072 .f32 := B.arg19.view.readCov (pG B 96) (Rect.unit (s := S8x3072) ![0, 0] S8x3072.size inb_S8x3072_S8x3072_0_0).toLoadRect

def gradRows (w : Vec F S128x128 .f32) (h p : Vec F S128x3072 .bf16) (g : Vec F S8x3072 .f32) : FVec F S3x3072 .f32 :=
  k0_pay1814 (k0_pay1804 w) (k0_pay1806 w) (k0_pay1808 w) (k0_pay1809 w) (k0_pay1811 w) (k0_pay1812 w) (k0_pay1813 w) h p g
def wGrad : FVec F S3x3072 .f32 := gradRows (wW B) (wHfull B) (wPfull B) (wGfull B)

end Cert.KernelIdeal.Gen

end
-- ==== Proof.KernelFrame.lean ====
/- One run of the kernel over the grid: every argument array is kept, and each result's block meets whatever predicate the
   body's stores meet at every point. -/
module

public import proofs.«01_k».proof.Proof.KernelWords
public import proofs.«01_k».proof.Proof.Gen.KernelIdeal.Frame
public import Idealize.ShloMosaic.Lib.Pipeline.FrameBody
public import Idealize.ShloMosaic.Lib.Pipeline.DatRel
public import Idealize.ShloMosaic.Lib.Pipeline.ArrRel
public import Idealize.ShloMosaic.Lib.Tactic
public import Idealize.ShloMosaic.Lib.WordCmp

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The conditions, the memrefs -/

/-- The condition of the body's `scf.if` 0 (`k0_h1`), from the grid coordinates (the skeleton's scalar
    chain substituted). -/
abbrev cond0_0 (i : grid0.Coords) : Prop := k0_cond1 i = 1#1
/-- It holds at the points before point 8 — by arithmetic of the point. -/
theorem hcond0_0 : ∀ t : Fin cfg0.N, cond0_0 (grid0.coords t) ↔ t.val < 8 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val < 8)

/-- The condition of the body's `scf.if` 1 (`k0_h2`), from the grid coordinates (the skeleton's scalar
    chain substituted). -/
abbrev cond0_1 (i : grid0.Coords) : Prop := k0_cond2 i = 1#1
/-- It holds at the points from point 8 on — by arithmetic of the point. -/
theorem hcond0_1 : ∀ t : Fin cfg0.N, cond0_1 (grid0.coords t) ↔ 8 ≤ t.val :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_1, k0_cond2, e0, e1]
    word_cmp
   : ∀ t : Fin grid0.N, cond0_1 (grid0.coords t) ↔ 8 ≤ t.val)

/-- The condition of the body's `scf.if` 2 (`k0_h3`), from the grid coordinates (the skeleton's scalar
    chain substituted). -/
abbrev cond0_2 (i : grid0.Coords) : Prop := k0_cond3 i = 1#1
/-- It holds at the points ≡ 0 (mod 8) — by arithmetic of the point. -/
theorem hcond0_2 : ∀ t : Fin cfg0.N, cond0_2 (grid0.coords t) ↔ t.val % 8 = 0 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_2, k0_cond3, e0, e1]
    word_cmp
   : ∀ t : Fin grid0.N, cond0_2 (grid0.coords t) ↔ t.val % 8 = 0)

/-- The condition of the body's `scf.if` 3 (`k0_h4`), from the grid coordinates (the skeleton's scalar
    chain substituted). -/
abbrev cond0_3 (i : grid0.Coords) : Prop := k0_cond4 i = 1#1
/-- It holds at the points whose coordinates have 1 ≤ i1 — decided over the grid. -/
theorem hcond0_3 : ∀ t : Fin cfg0.N, cond0_3 (grid0.coords t) ↔ 1 ≤ t.val % 8 :=
  (by decide +kernel : ∀ t : Fin grid0.N, cond0_3 (grid0.coords t) ↔ 1 ≤ t.val % 8)

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl

/-- Each window's current staging memref at point `t`, spelled as the pipeline passes it (`bodyAt0`), and its wholeness. -/
abbrev ms0_0 (t : Fin cfg0.N) : Memref sig .tc .vmem S1x128x3072 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x3072 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x3072 .fp8e5m2 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128x3072 .fp8e5m2 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x3072 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x3x3072 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x3x3072 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x128x3072 .fp8e5m2 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2x1024 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S1x3072 .f32 := Memref.whole cc0_scratch0
abbrev scM0_1 : Memref sig .tc .vmem S32x3072 .f32 := Memref.whole cc0_scratch1
abbrev scM0_2 : Memref sig .tc .vmem S32x3072 .f32 := Memref.whole cc0_scratch2
abbrev scM0_3 : Memref sig .tc .vmem S128x3072 .bf16 := Memref.whole cc0_scratch3
abbrev scM0_4 : Memref sig .tc .vmem S128x3072 .bf16 := Memref.whole cc0_scratch4
abbrev scM0_5 : Memref sig .tc .vmem S8x3072 .f32 := Memref.whole cc0_scratch5
abbrev scM0_6 : Memref sig .tc .vmem S128x128 .f32 := Memref.whole cc0_scratch6

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

/-- The body's memrefs and contents at point `t`: the inputs' blocks, and what it finds in the accumulator, the scales and
    the weights' buffer. -/
abbrev bodyOf (c : Dev nD) (t : Fin cfg0.N) (y8 : Vec F S1x3x3072 .f32) (y11 : Vec F S2x1024 .f32) (s : Vec F S128x128 .f32) : Body F where
  c := c
  i := grid0.coords t
  arg2 := ms0_0 t
  harg2 := hs0_0 t
  arg3 := ms0_1 t
  harg3 := hs0_1 t
  arg4 := ms0_2 t
  harg4 := hs0_2 t
  arg5 := ms0_3 t
  harg5 := hs0_3 t
  arg6 := ms0_4 t
  harg6 := hs0_4 t
  arg7 := ms0_5 t
  harg7 := hs0_5 t
  arg8 := ms0_6 t
  harg8 := hs0_6 t
  arg9 := ms0_7 t
  harg9 := hs0_7 t
  arg10 := ms0_8 t
  harg10 := hs0_8 t
  arg11 := ms0_9 t
  harg11 := hs0_9 t
  arg12 := ms0_10 t
  harg12 := hs0_10 t
  arg13 := ms0_11 t
  harg13 := hs0_11 t
  arg14 := scM0_0
  harg14 := Memref.isWhole_whole _
  arg15 := scM0_1
  harg15 := Memref.isWhole_whole _
  arg16 := scM0_2
  harg16 := Memref.isWhole_whole _
  arg17 := scM0_3
  harg17 := Memref.isWhole_whole _
  arg18 := scM0_4
  harg18 := Memref.isWhole_whole _
  arg19 := scM0_5
  harg19 := Memref.isWhole_whole _
  arg20 := scM0_6
  harg20 := Memref.isWhole_whole _
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := y8
  x11 := y11
  xs6 := s

set_option maxHeartbeats 6400000 in
/-- The run with what is known of the results: the predicates its stores meet. -/
theorem Body.sound (B : Body F) (P8 : Vec F S1x3x3072 .f32 → Prop) (P9 : Vec F S1x1x3x3072 .f32 → Prop)
    (P10 : Vec F S1x128x3072 .fp8e5m2 → Prop) (P11 : Vec F S2x1024 .f32 → Prop)
    (h8 : P8 (B.arg10.view.read (Elt F) B.run.1))
    (h9 : ∀ f, P9 (B.arg11.view.read (Elt F) (B.arg11.view.writes (Elt F) f B.run.2.1)))
    (h10 : ∀ f, P10 (B.arg12.view.read (Elt F) (B.arg12.view.writes (Elt F) f B.run.2.2.1)))
    (h11 : P11 (B.arg13.view.read (Elt F) B.run.2.2.2.1)) (K : PUnit → sProp 𝕄) :
    iprop(
      owns (B.c : Thread nD τ) B.arg2 fullShare B.x0
      ∗ owns (B.c : Thread nD τ) B.arg3 fullShare B.x1
      ∗ owns (B.c : Thread nD τ) B.arg4 fullShare B.x2
      ∗ owns (B.c : Thread nD τ) B.arg5 fullShare B.x3
      ∗ owns (B.c : Thread nD τ) B.arg6 fullShare B.x4
      ∗ owns (B.c : Thread nD τ) B.arg7 fullShare B.x5
      ∗ owns (B.c : Thread nD τ) B.arg8 fullShare B.x6
      ∗ owns (B.c : Thread nD τ) B.arg9 fullShare B.x7
      ∗ owns (B.c : Thread nD τ) B.arg10 fullShare B.x8
      ∗ (∃ d, owns (B.c : Thread nD τ) B.arg11 fullShare d)
      ∗ (∃ d, owns (B.c : Thread nD τ) B.arg12 fullShare d)
      ∗ owns (B.c : Thread nD τ) B.arg13 fullShare B.x11
      ∗ (∃ d, owns (B.c : Thread nD τ) B.arg14 fullShare d)
      ∗ (∃ d, owns (B.c : Thread nD τ) B.arg15 fullShare d)
      ∗ (∃ d, owns (B.c : Thread nD τ) B.arg16 fullShare d)
      ∗ (∃ d, owns (B.c : Thread nD τ) B.arg17 fullShare d)
      ∗ (∃ d, owns (B.c : Thread nD τ) B.arg18 fullShare d)
      ∗ (∃ d, owns (B.c : Thread nD τ) B.arg19 fullShare d)
      ∗ owns (B.c : Thread nD τ) B.arg20 fullShare B.xs6
      ∗ (iprop(
        owns (B.c : Thread nD τ) B.arg2 fullShare B.x0
      ∗ owns (B.c : Thread nD τ) B.arg3 fullShare B.x1
      ∗ owns (B.c : Thread nD τ) B.arg4 fullShare B.x2
      ∗ owns (B.c : Thread nD τ) B.arg5 fullShare B.x3
      ∗ owns (B.c : Thread nD τ) B.arg6 fullShare B.x4
      ∗ owns (B.c : Thread nD τ) B.arg7 fullShare B.x5
      ∗ owns (B.c : Thread nD τ) B.arg8 fullShare B.x6
      ∗ owns (B.c : Thread nD τ) B.arg9 fullShare B.x7
      ∗ (∃ X, ⌜P8 X⌝ ∗ owns (B.c : Thread nD τ) B.arg10 fullShare X)
      ∗ (∃ X, ⌜P9 X⌝ ∗ owns (B.c : Thread nD τ) B.arg11 fullShare X)
      ∗ (∃ X, ⌜P10 X⌝ ∗ owns (B.c : Thread nD τ) B.arg12 fullShare X)
      ∗ (∃ X, ⌜P11 X⌝ ∗ owns (B.c : Thread nD τ) B.arg13 fullShare X)
      ∗ (∃ d, owns (B.c : Thread nD τ) B.arg14 fullShare d)
      ∗ (∃ d, owns (B.c : Thread nD τ) B.arg15 fullShare d)
      ∗ (∃ d, owns (B.c : Thread nD τ) B.arg16 fullShare d)
      ∗ (∃ d, owns (B.c : Thread nD τ) B.arg17 fullShare d)
      ∗ (∃ d, owns (B.c : Thread nD τ) B.arg18 fullShare d)
      ∗ (∃ d, owns (B.c : Thread nD τ) B.arg19 fullShare d)
      ∗ (∃ d, owns (B.c : Thread nD τ) B.arg20 fullShare d)) -∗ K ⟨⟩))
      ⊢ wp frame (wpE (defs₀ (F := F)) Variants.none (B.c : Thread nD τ) none) Set.univ (cc0_adaln_backward B.i B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20) K := by
  generalize B.run = R at h8 h9 h10 h11
  obtain ⟨C8, L9, L10, C11, LT0, LT1, LT2, LT3, LT4, LT5, ⟨LT6, hLT⟩⟩ := R
  dsimp only at h8 h9 h10 h11
  refine BIBase.Entails.trans ?_ (hLT Set.univ K)
  iintro ⟨H0, H1, H2, H3, H4, H5, H6, H7, H8, H9, H10, H11, HS0, HS1, HS2, HS3, HS4, HS5, HS6, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, ⟨%f9, H9⟩, ⟨%f10, H10⟩, H11, ⟨%g0, HS0⟩, ⟨%g1, HS1⟩, ⟨%g2, HS2⟩, ⟨%g3, HS3⟩, ⟨%g4, HS4⟩, ⟨%g5, HS5⟩, ⟨%g6, HS6⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; isplitr
    swap
    · unfold owns; iexists _; isplitr
      swap; · iexact H8
      ipureintro; rfl
    ipureintro; exact h8
  isplitl [H9]
  · iexists _; isplitr
    swap
    · unfold owns; iexists _; isplitr
      swap; · iexact H9
      ipureintro; rfl
    ipureintro; exact h9 f9
  isplitl [H10]
  · iexists _; isplitr
    swap
    · unfold owns; iexists _; isplitr
      swap; · iexact H10
      ipureintro; rfl
    ipureintro; exact h10 f10
  isplitl [H11]
  · iexists _; isplitr
    swap
    · unfold owns; iexists _; isplitr
      swap; · iexact H11
      ipureintro; rfl
    ipureintro; exact h11
  unfold owns
  isplitl [HS0]
  · iexists _; iexists _; isplitr
    swap; · iexact HS0
    ipureintro; rfl
  isplitl [HS1]
  · iexists _; iexists _; isplitr
    swap; · iexact HS1
    ipureintro; rfl
  isplitl [HS2]
  · iexists _; iexists _; isplitr
    swap; · iexact HS2
    ipureintro; rfl
  isplitl [HS3]
  · iexists _; iexists _; isplitr
    swap; · iexact HS3
    ipureintro; rfl
  isplitl [HS4]
  · iexists _; iexists _; isplitr
    swap; · iexact HS4
    ipureintro; rfl
  isplitl [HS5]
  · iexists _; iexists _; isplitr
    swap; · iexact HS5
    ipureintro; rfl
  iexists _; iexists _; isplitr
  swap; · iexact HS6
  ipureintro; rfl

/-! ## The proof data -/

/-- The four results' windows. -/
def marked : Fin cfg0.W → Bool := fun w => w.val == 8 || w.val == 9 || w.val == 10 || w.val == 11

def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

theorem A_eq (c : Dev nD) (w : Fin cfg0.W) : (dats m c).A w = V m c (Pipeline.arrRef spec0 w) := by
  dsimp only [dats]
theorem after0_0 (c : Dev nD) (t : Fin cfg0.N) : (dats m c).after 0 t = iblk m c 0 t := by dsimp only [dats]
theorem after0_1 (c : Dev nD) (t : Fin cfg0.N) : (dats m c).after 1 t = iblk m c 1 t := by dsimp only [dats]
theorem after0_2 (c : Dev nD) (t : Fin cfg0.N) : (dats m c).after 2 t = iblk m c 2 t := by dsimp only [dats]
theorem after0_3 (c : Dev nD) (t : Fin cfg0.N) : (dats m c).after 3 t = iblk m c 3 t := by dsimp only [dats]
theorem after0_4 (c : Dev nD) (t : Fin cfg0.N) : (dats m c).after 4 t = iblk m c 4 t := by dsimp only [dats]
theorem after0_5 (c : Dev nD) (t : Fin cfg0.N) : (dats m c).after 5 t = iblk m c 5 t := by dsimp only [dats]
theorem after0_6 (c : Dev nD) (t : Fin cfg0.N) : (dats m c).after 6 t = iblk m c 6 t := by dsimp only [dats]
theorem after0_7 (c : Dev nD) (t : Fin cfg0.N) : (dats m c).after 7 t = iblk m c 7 t := by dsimp only [dats]
theorem before0_0 (c : Dev nD) (t : Fin cfg0.N) (d) : (dats m c).before 0 t d = iblk m c 0 t :=
  before0_0_of m (dats m c) (A_eq m c 0) (after0_0 m c) t d
theorem before0_1 (c : Dev nD) (t : Fin cfg0.N) (d) : (dats m c).before 1 t d = iblk m c 1 t :=
  before0_1_of m (dats m c) (A_eq m c 1) (after0_1 m c) t d
theorem before0_2 (c : Dev nD) (t : Fin cfg0.N) (d) : (dats m c).before 2 t d = iblk m c 2 t :=
  before0_2_of m (dats m c) (A_eq m c 2) (after0_2 m c) t d
theorem before0_3 (c : Dev nD) (t : Fin cfg0.N) (d) : (dats m c).before 3 t d = iblk m c 3 t :=
  before0_3_of m (dats m c) (A_eq m c 3) (after0_3 m c) t d
theorem before0_4 (c : Dev nD) (t : Fin cfg0.N) (d) : (dats m c).before 4 t d = iblk m c 4 t :=
  before0_4_of m (dats m c) (A_eq m c 4) (after0_4 m c) t d
theorem before0_5 (c : Dev nD) (t : Fin cfg0.N) (d) : (dats m c).before 5 t d = iblk m c 5 t :=
  before0_5_of m (dats m c) (A_eq m c 5) (after0_5 m c) t d
theorem before0_6 (c : Dev nD) (t : Fin cfg0.N) (d) : (dats m c).before 6 t d = iblk m c 6 t :=
  before0_6_of m (dats m c) (A_eq m c 6) (after0_6 m c) t d
theorem before0_7 (c : Dev nD) (t : Fin cfg0.N) (d) : (dats m c).before 7 t d = iblk m c 7 t :=
  before0_7_of m (dats m c) (A_eq m c 7) (after0_7 m c) t d

/-- What is said of each result's block after a point. -/
abbrev Rel (F : FTy → Type) := (w : Fin cfg0.W) → Fin cfg0.N → ((cfg0.win w).block.Idx → Elt F (cfg0.win w).elt) → Prop

/-- The predicates hold of the body's stores at point `t`. -/
def Steps (Rl : Rel F) (c : Dev nD) (t : Fin cfg0.N) : Prop :=
  ∀ (y8 : Vec F S1x3x3072 .f32) (y11 : Vec F S2x1024 .f32) (s : Vec F S128x128 .f32),
    ((dats m c).toRRel marked Rl).Finds 8 t y8 → ((dats m c).toRRel marked Rl).Finds 11 t y11 →
      Rl 8 t ((ms0_8 t).view.read (Elt F) (bodyOf m c t y8 y11 s).run.1)
      ∧ (∀ f, Rl 9 t ((ms0_9 t).view.read (Elt F) ((ms0_9 t).view.writes (Elt F) f (bodyOf m c t y8 y11 s).run.2.1)))
      ∧ (∀ f, Rl 10 t ((ms0_10 t).view.read (Elt F) ((ms0_10 t).view.writes (Elt F) f (bodyOf m c t y8 y11 s).run.2.2.1)))
      ∧ Rl 11 t ((ms0_11 t).view.read (Elt F) (bodyOf m c t y8 y11 s).run.2.2.2.1)

variable (Rl : Rel F)

def bodyPre (c : Dev nD) (t : Fin cfg0.N) : sProp 𝕄 :=
  iprop((dats m c).Φ t.castSucc ∗ (dats m c).owesAt () t.castSucc
    ∗ (∃ d, owns (c : Thread nD τ) (ms0_0 t) fullShare ((dats m c).before 0 t d))
    ∗ (∃ d, owns (c : Thread nD τ) (ms0_1 t) fullShare ((dats m c).before 1 t d))
    ∗ (∃ d, owns (c : Thread nD τ) (ms0_2 t) fullShare ((dats m c).before 2 t d))
    ∗ (∃ d, owns (c : Thread nD τ) (ms0_3 t) fullShare ((dats m c).before 3 t d))
    ∗ (∃ d, owns (c : Thread nD τ) (ms0_4 t) fullShare ((dats m c).before 4 t d))
    ∗ (∃ d, owns (c : Thread nD τ) (ms0_5 t) fullShare ((dats m c).before 5 t d))
    ∗ (∃ d, owns (c : Thread nD τ) (ms0_6 t) fullShare ((dats m c).before 6 t d))
    ∗ (∃ d, owns (c : Thread nD τ) (ms0_7 t) fullShare ((dats m c).before 7 t d))
    ∗ (∃ Y, ⌜((dats m c).toRRel marked Rl).Finds 8 t Y⌝ ∗ owns (c : Thread nD τ) (ms0_8 t) fullShare Y)
    ∗ (∃ Y, ⌜((dats m c).toRRel marked Rl).Finds 9 t Y⌝ ∗ owns (c : Thread nD τ) (ms0_9 t) fullShare Y)
    ∗ (∃ Y, ⌜((dats m c).toRRel marked Rl).Finds 10 t Y⌝ ∗ owns (c : Thread nD τ) (ms0_10 t) fullShare Y)
    ∗ (∃ Y, ⌜((dats m c).toRRel marked Rl).Finds 11 t Y⌝ ∗ owns (c : Thread nD τ) (ms0_11 t) fullShare Y))
def bodyPost (c : Dev nD) (t : Fin cfg0.N) : sProp 𝕄 :=
  iprop((dats m c).Φ t.succ ∗ (dats m c).owesAt () t.succ
    ∗ owns (c : Thread nD τ) (ms0_0 t) fullShare ((dats m c).after 0 t)
    ∗ owns (c : Thread nD τ) (ms0_1 t) fullShare ((dats m c).after 1 t)
    ∗ owns (c : Thread nD τ) (ms0_2 t) fullShare ((dats m c).after 2 t)
    ∗ owns (c : Thread nD τ) (ms0_3 t) fullShare ((dats m c).after 3 t)
    ∗ owns (c : Thread nD τ) (ms0_4 t) fullShare ((dats m c).after 4 t)
    ∗ owns (c : Thread nD τ) (ms0_5 t) fullShare ((dats m c).after 5 t)
    ∗ owns (c : Thread nD τ) (ms0_6 t) fullShare ((dats m c).after 6 t)
    ∗ owns (c : Thread nD τ) (ms0_7 t) fullShare ((dats m c).after 7 t)
    ∗ (∃ X, ⌜Rl 8 t X⌝ ∗ owns (c : Thread nD τ) (ms0_8 t) fullShare X)
    ∗ (∃ X, ⌜Rl 9 t X⌝ ∗ owns (c : Thread nD τ) (ms0_9 t) fullShare X)
    ∗ (∃ X, ⌜Rl 10 t X⌝ ∗ owns (c : Thread nD τ) (ms0_10 t) fullShare X)
    ∗ (∃ X, ⌜Rl 11 t X⌝ ∗ owns (c : Thread nD τ) (ms0_11 t) fullShare X))

set_option maxRecDepth 20000 in
set_option maxHeartbeats 6400000 in
theorem sound_body (c : Dev nD) (t : Fin cfg0.N) (hs : Steps m Rl c t) :
    bodyPre m Rl c t ⊢ wp frame (wpE (defs₀ (F := F)) Variants.none c none) Set.univ (bodyAt0 t) (fun _ => bodyPost m Rl c t) := by
  unfold bodyPre bodyPost bodyAt0
  simp only [before0_0, before0_1, before0_2, before0_3, before0_4, before0_5, before0_6, before0_7,
    after0_0, after0_1, after0_2, after0_3, after0_4, after0_5, after0_6, after0_7]
  rw [show (dats m c).Φ t.succ = (dats m c).Φ t.castSucc from rfl,
    show (dats m c).owesAt () t.succ = (dats m c).owesAt () t.castSucc from rfl]
  rw [show (dats m c).Φ t.castSucc = Pipeline.ΦA spec0 c from rfl, PhiA0_eq]
  iintro ⟨⟨⟨HS0, HS1, HS2, HS3, HS4, HS5, ⟨%s, HS6⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%y8, %hy8, H8⟩, ⟨%y9, %hy9, H9⟩, ⟨%y10, %hy10, H10⟩, ⟨%y11, %hy11, H11⟩⟩
  have hh := hs y8
  have hh := hh y11
  have hh := hh s
  have hh := hh hy8
  have hh := hh hy11
  have hB := (bodyOf m c t y8 y11 s).sound (Rl 8 t) (Rl 9 t) (Rl 10 t) (Rl 11 t)
  have hB := hB hh.1
  have hB := hB hh.2.1
  have hB := hB hh.2.2.1
  have hB := hB hh.2.2.2
  clear hh
  iapply hB
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexact H11
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, HS0, HS1, HS2, HS3, HS4, HS5, HS6⟩
  isplitl [HS0 HS1 HS2 HS3 HS4 HS5 HS6 Hg]
  · isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5]; · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem defs₀_row (t : Fin cfg0.N) :
    defs₀ (F := F) .tc cfg0.body (cfg0.bodyArgs t (cfg0.slots t)) = bodyAt0 t := by
  unfold defs₀; rw [Defs.onTc_tc]

theorem body_obligation (c : Dev nD) (hs : ∀ t, Steps m Rl c t) :
    BodyObligationRel (dats (F := F) m c) (defs₀ (F := F)) Variants.none () Set.univ marked Rl := fun t => by
  rw [bigSep_W0, bigSep_W0, defs₀_row]
  exact triple_restated (sound_body m Rl c t (hs t)) rfl .rfl fun _ => .rfl

set_option backward.isDefEq.respectTransparency.types false in
/-- The run: the arrays hold what the predicates allow, every other buffer what it held, every counter zero. -/
theorem run_main (hs : ∀ c t, Steps m Rl c t) :
    θ_run defs (onTc (τ := τ) (main (F := F))) (s₀ m ρ)
      (fun r => (Pipeline.RDat.FramePost cfg0 (fun c => (dats m c).toRRel marked Rl) (V m)) r ∧ r.2.sem = fun _ => 0) :=
  Pipeline.RDat.θ_run_frame (Q' := _) cfgs (0 : Fin 1) launch0 defs₀ Variants.none (fun c => (dats m c).toRRel marked Rl) m ρ main
    (hbody := fun c => (body_obligation m Rl c (hs c)).toRRel) (hshare := fun c => (dats m c).share_full fun _ => rfl)
    (howed := fun _ _ => rfl) (V := V m) (hmain := hmain m Variants.none) (hA := A_eq m) (hΦ := fun _ _ => rfl) (hQ' := fun _ h => h)

end Cert.KernelIdeal.Gen

end
-- ==== Proof.Quant.lean ====
/- The exponent of a nonnegative real found bit by bit, and the power-of-two scale it gives: the same the logarithm gives. -/
module

public import Idealize.ShloMosaic.PureOps.Ideal

@[expose] public section

noncomputable section

namespace Cert.Quant

open Idealize.ShloMosaic

/-- The float whose exponent field is `k` and whose other bits are zero. -/
def pw (k : ℕ) : EReal := Ideal.ofBits .f32 (BitVec.ofNat 32 (k * 8388608))

theorem pw_zero : pw 0 = 0 := by simp [pw, Ideal.ofBits, Ideal.ieee]
theorem pw_top : pw 255 = ⊤ := by simp [pw, Ideal.ofBits, Ideal.ieee]

theorem word_toNat (k : ℕ) (h : k < 256) : (BitVec.ofNat 32 (k * 8388608)).toNat = k * 2 ^ 23 := by
  rw [BitVec.toNat_ofNat]
  exact Nat.mod_eq_of_lt (by norm_num; omega)
theorem ex_field (k : ℕ) (h : k < 256) : ((BitVec.ofNat 32 (k * 8388608)).extractLsb' 23 8).toNat = k := by
  rw [BitVec.extractLsb'_toNat, word_toNat k h, Nat.shiftRight_eq_div_pow, Nat.mul_div_cancel k (by norm_num : 0 < 2 ^ 23)]
  exact Nat.mod_eq_of_lt h
theorem fr_field (k : ℕ) (h : k < 256) : ((BitVec.ofNat 32 (k * 8388608)).extractLsb' 0 23).toNat = 0 := by
  rw [BitVec.extractLsb'_toNat, word_toNat k h, Nat.shiftRight_zero]
  exact Nat.mul_mod_left k (2 ^ 23)
theorem sg_field (k : ℕ) (h : k < 255) : (BitVec.ofNat 32 (k * 8388608)).extractLsb' 31 1 = 0#1 := by
  apply BitVec.eq_of_toNat_eq
  rw [BitVec.extractLsb'_toNat, word_toNat k (by omega), Nat.shiftRight_eq_div_pow, Nat.div_eq_of_lt (by norm_num; omega)]
  rfl

theorem pw_eq (k : ℕ) (h1 : 1 ≤ k) (h2 : k ≤ 254) : pw k = (((2 : ℝ) ^ ((k : ℤ) - 127) : ℝ) : EReal) := by
  unfold pw Ideal.ofBits Ideal.ieee
  simp only [ex_field k (by omega), fr_field k (by omega), Nat.reduceAdd, sg_field k (by omega)]
  rw [if_neg (by norm_num; omega), if_neg (by omega)]
  congr 1
  have : ((k : ℤ) - (2 ^ (8 - 1) - 1) - (23 : ℕ)) = ((k : ℤ) - 127) - 23 := by norm_num
  rw [this, zpow_sub₀ (by norm_num)]
  norm_num
  ring

/-- One step of the search: the bit is kept if the float it makes is no more than `v`. -/
def step (v : EReal) (m e : BitVec 32) : BitVec 32 :=
  if Ideal.ofBits .f32 (e + m) ≤ v then e + m else e

/-- The eight steps. -/
def expo (v : EReal) : BitVec 32 :=
  step v 0x00800000#32 (step v 0x01000000#32 (step v 0x02000000#32 (step v 0x04000000#32
    (step v 0x08000000#32 (step v 0x10000000#32 (step v 0x20000000#32 (step v 0x40000000#32 0x00000000#32)))))))

/-- After the bits above `w`: the field so far is `K`. -/
def Inv (v : EReal) (w K : ℕ) (e : BitVec 32) : Prop :=
  e = BitVec.ofNat 32 (K * 8388608) ∧ pw K ≤ v ∧ K + w ≤ 256 ∧ (K + w = 256 ∨ v < pw (K + w))

theorem Inv.step {v : EReal} {w K : ℕ} {e m : BitVec 32} (h : Inv v (w + w) K e) (hm : m = BitVec.ofNat 32 (w * 8388608)) :
    ∃ K', Inv v w K' (step v m e) := by
  obtain ⟨h1, h2, h3, h4⟩ := h
  have hs : e + m = BitVec.ofNat 32 ((K + w) * 8388608) := by
    rw [h1, hm, ← BitVec.ofNat_add, add_mul]
  unfold Quant.step
  by_cases hc : pw (K + w) ≤ v
  · refine ⟨K + w, ?_⟩
    rw [hs, if_pos (show Ideal.ofBits .f32 (BitVec.ofNat 32 ((K + w) * 8388608)) ≤ v from hc)]
    exact ⟨rfl, hc, by omega, by rw [add_assoc]; exact h4⟩
  · refine ⟨K, ?_⟩
    rw [hs, if_neg (show ¬ Ideal.ofBits .f32 (BitVec.ofNat 32 ((K + w) * 8388608)) ≤ v from hc)]
    exact ⟨h1, h2, by omega, .inr (not_le.mp hc)⟩

theorem expo_spec (v : ℝ) (hv : 0 ≤ v) :
    ∃ k : ℕ, k ≤ 254 ∧ expo (v : EReal) = BitVec.ofNat 32 (k * 8388608) ∧ pw k ≤ (v : EReal) ∧ (v : EReal) < pw (k + 1) := by
  have h0 : Inv (v : EReal) (128 + 128) 0 0x00000000#32 :=
    ⟨rfl, by rw [pw_zero]; exact_mod_cast hv, by omega, .inl rfl⟩
  obtain ⟨_, h1⟩ := h0.step (m := 0x40000000#32) rfl
  obtain ⟨_, h2⟩ := Inv.step (w := 64) h1 (m := 0x20000000#32) rfl
  obtain ⟨_, h3⟩ := Inv.step (w := 32) h2 (m := 0x10000000#32) rfl
  obtain ⟨_, h4⟩ := Inv.step (w := 16) h3 (m := 0x08000000#32) rfl
  obtain ⟨_, h5⟩ := Inv.step (w := 8) h4 (m := 0x04000000#32) rfl
  obtain ⟨_, h6⟩ := Inv.step (w := 4) h5 (m := 0x02000000#32) rfl
  obtain ⟨_, h7⟩ := Inv.step (w := 2) h6 (m := 0x01000000#32) rfl
  obtain ⟨K, h8, h9, h10, h11⟩ := Inv.step (w := 1) h7 (m := 0x00800000#32) rfl
  have hK : K + 1 ≠ 256 := by
    intro h
    have : K = 255 := by omega
    subst this
    rw [pw_top] at h9
    exact absurd h9 (by simp)
  exact ⟨K, by omega, h8, h9, h11.resolve_left hK⟩

/-- A float whose exponent field is a found one is finite. -/
theorem pw_real (k : ℕ) (h : k ≤ 254) : ∃ r : ℝ, pw k = (r : EReal) := by
  rcases Nat.eq_zero_or_pos k with rfl | h1
  · exact ⟨0, by rw [pw_zero]; rfl⟩
  · exact ⟨_, pw_eq k h1 h⟩

theorem flip (k : ℕ) (h : k ≤ 254) : 0x7F000000#32 - BitVec.ofNat 32 (k * 8388608) = BitVec.ofNat 32 ((254 - k) * 8388608) := by
  rw [show (0x7F000000#32) = BitVec.ofNat 32 ((254 - k) * 8388608 + k * 8388608) by
    rw [← add_mul, Nat.sub_add_cancel h]]
  rw [BitVec.ofNat_add, BitVec.add_sub_cancel]

/-! ## The scale -/

/-- The scale's exponent: one more than `⌊log₂ z⌋`, at most 113; 0 for `z` below the least normal float. -/
def qexp (z : ℝ) : ℝ :=
  if z < 2 ^ (-126 : ℤ) then 0 else min ((⌊Real.log z / Real.log 2⌋ : ℝ) + 1) 113
def qscale (z : ℝ) : ℝ := Real.rpow 2 (qexp z)
def qinv (z : ℝ) : ℝ := Real.rpow 2 (0 - qexp z)

/-- The scale's bits from the exponent's. -/
def sbits (e : BitVec 32) : BitVec 32 :=
  let m := if e.slt 0x77800000#32 then e else 0x77800000#32
  if m = 0x00000000#32 then 0x3F800000#32 else m + 0x00800000#32

theorem sbits_ofNat (k : ℕ) (h : k ≤ 254) :
    sbits (BitVec.ofNat 32 (k * 8388608)) = BitVec.ofNat 32 ((if k = 0 then 127 else min k 239 + 1) * 8388608) := by
  have hs : (BitVec.ofNat 32 (k * 8388608)).slt 0x77800000#32 = decide (k < 239) := by
    simp only [BitVec.slt, BitVec.toInt_eq_toNat_cond, BitVec.toNat_ofNat]
    congr 1
    apply propext
    rw [Nat.mod_eq_of_lt (by omega : k * 8388608 < 2 ^ 32)]
    rw [if_pos (by omega), if_pos (by omega)]
    norm_num
    omega
  have hz : (BitVec.ofNat 32 (k * 8388608) = 0x00000000#32) ↔ k = 0 := by
    rw [← BitVec.toNat_inj]
    simp
    omega
  unfold sbits
  rw [hs]
  by_cases h1 : k < 239
  · rw [decide_eq_true h1]
    simp only [if_true, hz]
    by_cases h0 : k = 0
    · simp [h0]
    · rw [if_neg h0, if_neg h0, min_eq_left (by omega)]
      rw [show (0x00800000#32) = BitVec.ofNat 32 (1 * 8388608) from rfl, ← BitVec.ofNat_add, add_mul]
  · rw [decide_eq_false h1, if_neg (by omega : ¬ k = 0), min_eq_right (by omega : 239 ≤ k)]
    simp only [Bool.false_eq_true, if_false]
    decide

theorem qexp_eq (z : ℝ) (k : ℕ) (h : k ≤ 254) (h1 : pw k ≤ (z : EReal)) (h2 : (z : EReal) < pw (k + 1)) :
    qexp z = (((if k = 0 then 127 else min k 239 + 1 : ℕ) : ℤ) - 127 : ℤ) := by
  unfold qexp
  rcases Nat.eq_zero_or_pos k with rfl | hk
  · rw [pw_eq 1 (by omega) (by omega)] at h2
    rw [if_pos (by have := EReal.coe_lt_coe_iff.mp h2; norm_num at this ⊢; exact this)]
    simp
  · rw [pw_eq k hk h] at h1
    have h1' := EReal.coe_le_coe_iff.mp h1
    have hz : 0 < z := lt_of_lt_of_le (by positivity) h1'
    have hlog2 : 0 < Real.log 2 := Real.log_pos (by norm_num)
    have hge : ((k : ℤ) - 127 : ℤ) ≤ ⌊Real.log z / Real.log 2⌋ := by
      rw [Int.le_floor, le_div_iff₀ hlog2, ← Real.log_zpow]
      exact Real.log_le_log (by positivity) h1'
    rw [if_neg (not_lt.mpr (le_trans (zpow_le_zpow_right₀ (by norm_num) (by omega)) h1')), if_neg (by omega)]
    have hc : ∀ n : ℤ, min ((n : ℝ) + 1) 113 = ((min (n + 1) 113 : ℤ) : ℝ) := by intro n; push_cast; rfl
    rw [hc]
    rw [Int.cast_inj]
    push_cast
    rcases Nat.lt_or_ge k 254 with hk2 | hk2
    · rw [pw_eq (k + 1) (by omega) (by omega)] at h2
      have h2' := EReal.coe_lt_coe_iff.mp h2
      have hlt : ⌊Real.log z / Real.log 2⌋ < (k : ℤ) - 126 := by
        rw [Int.floor_lt, div_lt_iff₀ hlog2, ← Real.log_zpow]
        refine Real.log_lt_log hz (lt_of_lt_of_eq h2' ?_)
        congr 1; push_cast; ring
      omega
    · omega

theorem rpow_int (n : ℤ) : Real.rpow 2 (n : ℝ) = (2 : ℝ) ^ n := Real.rpow_intCast 2 n

theorem scale_spec (z : ℝ) (hz : 0 ≤ z) :
    Ideal.ofBits .f32 (sbits (expo z)) = ((qscale z : ℝ) : EReal)
      ∧ Ideal.ofBits .f32 (0x7F000000#32 - sbits (expo z)) = ((qinv z : ℝ) : EReal) := by
  obtain ⟨k, hk, he, h1, h2⟩ := expo_spec z hz
  have hq := qexp_eq z k hk h1 h2
  rw [he, sbits_ofNat k hk, flip _ (by split <;> omega)]
  generalize hs : (if k = 0 then 127 else min k 239 + 1) = s at *
  have hs1 : 1 ≤ s ∧ s ≤ 240 := by subst hs; split <;> omega
  constructor
  · rw [show Ideal.ofBits .f32 (BitVec.ofNat 32 (s * 8388608)) = pw s from rfl, pw_eq s hs1.1 (by omega)]
    unfold qscale; rw [hq, rpow_int]
  · rw [show Ideal.ofBits .f32 (BitVec.ofNat 32 ((254 - s) * 8388608)) = pw (254 - s) from rfl, pw_eq _ (by omega) (by omega)]
    unfold qinv
    rw [hq, show (0 : ℝ) - ((((s : ℕ) : ℤ) - 127 : ℤ) : ℝ) = ((127 - (s : ℤ) : ℤ) : ℝ) by push_cast; ring, rpow_int]
    congr 2
    omega

/-! ## The other numbers the two programs hold -/

theorem lit_eps : Ideal.ofBits .f32 0x358637BD#32 = ((8796093 / 8796093022208 : ℝ) : EReal) := by
  simp [Ideal.ofBits, Ideal.ieee, -EReal.coe_mul]; norm_num
/-- The format's greatest code, its negative, and the stored inverse. -/
def top : ℝ := 57344
def itop : ℝ := 9586981 / 549755813888
theorem lit_top : Ideal.ofBits .f32 0x47600000#32 = (top : EReal) := by
  unfold top; simp [Ideal.ofBits, Ideal.ieee, -EReal.coe_mul]; norm_num
theorem lit_ntop : Ideal.ofBits .f32 0xC7600000#32 = ((-top : ℝ) : EReal) := by
  unfold top; simp [Ideal.ofBits, Ideal.ieee, -EReal.coe_mul, -EReal.coe_neg]; norm_num
theorem lit_itop : Ideal.ofBits .f32 0x37924925#32 = (itop : EReal) := by
  unfold itop; simp [Ideal.ofBits, Ideal.ieee, -EReal.coe_mul]; norm_num
theorem lit_n : Ideal.ofBits .f32 0x45400000#32 = ((3072 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_2048 : Ideal.ofBits .f32 0x45000000#32 = ((2048 : ℝ) : EReal) := by
  simp [Ideal.ofBits, Ideal.ieee, -EReal.coe_mul]; norm_num
theorem lit_1024 : Ideal.ofBits .f32 0x44800000#32 = ((1024 : ℝ) : EReal) := by
  simp [Ideal.ofBits, Ideal.ieee, -EReal.coe_mul]; norm_num
theorem lit_ulp : Ideal.ofBits .f32 0x3A000000#32 = ((1 / 2048 : ℝ) : EReal) := by
  simp [Ideal.ofBits, Ideal.ieee, -EReal.coe_mul]; norm_num
theorem lit_least : Ideal.ofBits .f32 0x00800000#32 = (((2:ℝ) ^ (-126 : ℤ) : ℝ) : EReal) := by
  simp [Ideal.ofBits, Ideal.ieee, -EReal.coe_mul]
  norm_num
theorem lit_cap : Ideal.ofBits .f32 0x42E20000#32 = ((113 : ℝ) : EReal) := by
  simp [Ideal.ofBits, Ideal.ieee, -EReal.coe_mul]; norm_num
theorem lit_bot : Ideal.ofBits .f32 0xFF800000#32 = ⊥ := by
  simp [Ideal.ofBits, Ideal.ieee]

end Cert.Quant

end
-- ==== Proof.RowMath.lean ====
/- One token's gradient over the reals: the formula of the reference, and the kernel's, equal. -/
module

public import Idealize.ShloMosaic.PureOps.Ideal

@[expose] public section

noncomputable section

namespace Cert.Row

/-- The variance's addend. -/
def eps : ℝ := 8796093 / 8796093022208

theorem eps_pos : 0 < eps := by unfold eps; norm_num

/-- The mean of a row. -/
def mean (v : Fin 3072 → ℝ) : ℝ := (∑ d, v d) / 3072

variable (x u y : Fin 3072 → ℝ) (a b c : ℝ)

/-! ## As the reference computes it: `x` the codes of the input, `u` those of the incoming gradient times `1 + mod`. -/

def xc (d : Fin 3072) : ℝ := x d * a - mean (fun d => x d * a)
def var : ℝ := mean (fun d => xc x a d * xc x a d)
def rstd : ℝ := (Real.sqrt (var x a + eps))⁻¹
def xhat (d : Fin 3072) : ℝ := xc x a d * rstd x a
def dx (d : Fin 3072) : ℝ :=
  y d * b + rstd x a * (u d * c - mean (fun d => u d * c)
    - xhat x a d * mean (fun d => u d * c * xhat x a d))

/-! ## As the kernel does: from four sums over the codes. -/

/-- `3072 Σx² − (Σx)²` over `3072²`, scaled. -/
def varK : ℝ := (3072 * (∑ d, x d * x d) - (∑ d, x d) * (∑ d, x d)) * (1 / 9437184) * (a * a)
def rstdK : ℝ := (Real.sqrt (varK x a + eps))⁻¹
def mxK : ℝ := (∑ d, x d) * (1 / 3072)
def muK : ℝ := (∑ d, u d) * (1 / 3072)
def mxuK : ℝ := (∑ d, x d * u d) * (1 / 3072)
def craK : ℝ := c * (rstdK x a * a)
def gxK : ℝ := craK x a c * (mxuK x u - mxK x * muK u)
def alphaK : ℝ := rstdK x a * c
def betaK : ℝ := rstdK x a * (rstdK x a * a) * gxK x u a c
def gammaK : ℝ := betaK x u a c * mxK x - alphaK x a c * muK u
def dxK (d : Fin 3072) : ℝ :=
  y d * b + ((alphaK x a c * u d + gammaK x u a c) - betaK x u a c * x d)

theorem var_eq : var x a = varK x a := by
  unfold var varK xc mean
  have h1 : ∀ m : ℝ, (∑ d, (x d * a - m) * (x d * a - m))
      = a * a * (∑ d, x d * x d) - 2 * m * a * (∑ d, x d) + 3072 * (m * m) := by
    intro m
    have : ∀ d, (x d * a - m) * (x d * a - m) = a * a * (x d * x d) - 2 * m * a * x d + m * m := by
      intro d; ring
    simp only [this, Finset.sum_add_distrib, Finset.sum_sub_distrib, ← Finset.mul_sum]
    simp
    ring
  rw [h1, ← Finset.sum_mul]
  ring

theorem var_nonneg : 0 ≤ var x a := by
  unfold var mean
  exact div_nonneg (Finset.sum_nonneg fun d _ => mul_self_nonneg _) (by norm_num)

theorem rstd_eq : rstd x a = rstdK x a := by unfold rstd rstdK; rw [var_eq]

theorem varK_pos : 0 < varK x a + eps := by
  rw [← var_eq]; exact add_pos_of_nonneg_of_pos (var_nonneg x a) eps_pos

theorem xhat_eq (d : Fin 3072) : xhat x a d = (x d - mxK x) * (rstdK x a * a) := by
  unfold xhat xc mean mxK; rw [rstd_eq, ← Finset.sum_mul]; ring

theorem dx_eq (d : Fin 3072) : dx x u y a b c d = dxK x u y a b c d := by
  unfold dx dxK
  have h1 : mean (fun d => u d * c) = c * muK u := by
    unfold mean muK; rw [← Finset.sum_mul]; ring
  have h2 : mean (fun d => u d * c * xhat x a d) = gxK x u a c := by
    unfold mean gxK craK mxuK muK
    have : ∀ d, u d * c * xhat x a d = (rstdK x a * a * c) * (x d * u d) - (rstdK x a * a * c * mxK x) * u d := by
      intro d; rw [xhat_eq]; ring
    simp only [this, Finset.sum_sub_distrib, ← Finset.mul_sum]
    ring
  rw [h1, h2, xhat_eq, rstd_eq]
  unfold gammaK betaK alphaK
  ring

/-! ## The greatest magnitude of a row -/

def amax (f : Fin 3072 → ℝ) : ℝ := (Finset.univ.sup fun l => ((|f l| : ℝ) : EReal)).toReal

theorem amax_exists (f : Fin 3072 → ℝ) : ∃ l, (Finset.univ.sup fun l => ((|f l| : ℝ) : EReal)) = ((|f l| : ℝ) : EReal) := by
  obtain ⟨l, -, h⟩ := Finset.exists_mem_eq_sup (Finset.univ : Finset (Fin 3072)) ⟨0, Finset.mem_univ _⟩ (fun l => ((|f l| : ℝ) : EReal))
  exact ⟨l, h⟩
theorem amax_coe (f : Fin 3072 → ℝ) : (Finset.univ.sup fun l => ((|f l| : ℝ) : EReal)) = (amax f : EReal) := by
  obtain ⟨l, h⟩ := amax_exists f
  rw [amax, h, EReal.toReal_coe]
theorem amax_nonneg (f : Fin 3072 → ℝ) : 0 ≤ amax f := by
  obtain ⟨l, h⟩ := amax_exists f
  rw [amax, h, EReal.toReal_coe]; exact abs_nonneg _

end Cert.Row

end
-- ==== Proof.KernelRead.lean ====
/- What the words of a block's body hold over the extended reals when every input is a real number: the chunks of the
   first pass, the sums over a row, and the row's statistics. -/
module

public import proofs.«01_k».proof.Proof.KernelWords
public import proofs.«01_k».proof.Proof.Quant
public import proofs.«01_k».proof.Proof.RowMath
public import Idealize.ShloMosaic.Lib.Pointwise
public import Idealize.ShloMosaic.Lib.Pipeline.FrameBody
public import Idealize.ShloMosaic.Lib.Pipeline.Value
public import Idealize.ShloMosaic.Lib.WholeRead

@[expose] public section

noncomputable section

namespace Cert.KernelIdeal.Gen

open Idealize.ShloMosaic Idealize.ShloMosaic.TcCoe Idealize.SL.Sem

/-- The sample a grid point works on. -/
def bOf (i : grid0.Coords) : Fin 2 := i 0

/-- The real numbers a body's input blocks hold: codes of `x`, `dh`, `dy`, the branch output, the sample's row of
    `mod_scale`, and the block's token scales of `x`, `dy` and `dh`. -/
structure Reals (B : Body Ideal) where
  X : Fin 128 → Fin 3072 → ℝ
  H : Fin 128 → Fin 3072 → ℝ
  Y : Fin 128 → Fin 3072 → ℝ
  O : Fin 128 → Fin 3072 → ℝ
  M : Fin 3072 → ℝ
  A : Fin 128 → ℝ
  D : Fin 128 → ℝ
  C : Fin 128 → ℝ
  hX : ∀ r l, B.x0 (ix3 0 r l) = (X r l : EReal)
  hO : ∀ r l, B.x2 (ix3 0 r l) = (O r l : EReal)
  hY : ∀ r l, B.x3 (ix3 0 r l) = (Y r l : EReal)
  hH : ∀ r l, B.x5 (ix3 0 r l) = (H r l : EReal)
  hM : ∀ l, B.x7 (ix2 (bOf B.i) l) = (M l : EReal)
  hA : ∀ r, B.x1 ((rT B.i).toLoadRect.idx (ix2 (bOf B.i) r)) = (A r : EReal)
  hD : ∀ r, B.x4 ((rT B.i).toLoadRect.idx (ix2 (bOf B.i) r)) = (D r : EReal)
  hC : ∀ r, B.x6 ((rT B.i).toLoadRect.idx (ix2 (bOf B.i) r)) = (C r : EReal)

variable {B : Body Ideal} (R : Reals B)

/-- Row `p` of strip `s`; lane `q` of chunk `j`. -/
def row (s : ℕ) (p : Fin 32) : Fin 128 := ⟨32 * (s % 4) + p, by omega⟩
def lane (j : ℕ) (q : Fin 128) : Fin 3072 := ⟨128 * (j % 24) + q, by omega⟩

theorem mulI {s : Shape} {φ : FTy} (a b : FVec Ideal s φ) (i : s.Idx) : mulf a b i = (a i * b i : EReal) := rfl
theorem addI {s : Shape} {φ : FTy} (a b : FVec Ideal s φ) (i : s.Idx) : addf a b i = (a i + b i : EReal) := rfl
theorem subI {s : Shape} {φ : FTy} (a b : FVec Ideal s φ) (i : s.Idx) : subf a b i = (a i - b i : EReal) := rfl

theorem readCov_apply {sp : Space} {s : Shape} {e : EltTy} (v : View sig .tc sp s e) (L : List (View.Piece (Elt Ideal) s e))
    (b : LoadRect s) (j : b.shape.Idx) : v.readCov L b j = View.canon L (b.idx j) :=
  congrFun (View.readCov_eq_canon' v L b) j

/-! ## The chunks -/

theorem rS_idx (s j : ℕ) (p : Fin 32) (q : Fin 128) : (rS s j).toLoadRect.idx (ix3 0 p q) = ix3 0 (row s p) (lane j q) := by
  funext a; apply Fin.ext; fin_cases a <;> simp [LoadRect.idx, row, lane]

theorem flat_apply {α : Type} (v : S1x32x128.Idx → α) (p : Fin 32) (q : Fin 128) :
    shapeCast S32x128 v shapeCasts_S1x32x128_S32x128 (ix2 p q) = v (ix3 0 p q) := by
  pointwise
theorem raise_apply {α : Type} (v : S32x128.Idx → α) (p : Fin 32) (q : Fin 128) :
    shapeCast S1x32x128 v shapeCasts_S32x128_S1x32x128 (ix3 0 p q) = v (ix2 p q) := by
  pointwise

theorem wX8_apply (s j : ℕ) (p : Fin 32) (q : Fin 128) : wX8 B s j (ix2 p q) = (R.X (row s p) (lane j q) : EReal) := by
  rw [← R.hX, ← rS_idx, ← B.harg2.readAt_unread (Val := Elt Ideal) B.x0]
  rw [wX8, flat_apply]
theorem wH8_apply (s j : ℕ) (p : Fin 32) (q : Fin 128) : wH8 B s j (ix2 p q) = (R.H (row s p) (lane j q) : EReal) := by
  rw [← R.hH, ← rS_idx, ← B.harg7.readAt_unread (Val := Elt Ideal) B.x5]
  rw [wH8, flat_apply]
theorem wY8_apply (s j : ℕ) (p : Fin 32) (q : Fin 128) : wY8 B s j (ix2 p q) = (R.Y (row s p) (lane j q) : EReal) := by
  rw [← R.hY, ← rS_idx, ← B.harg5.readAt_unread (Val := Elt Ideal) B.x3]
  rw [wY8, flat_apply]
theorem wF8_apply (s j : ℕ) (p : Fin 32) (q : Fin 128) : wF8 B s j (ix2 p q) = (R.O (row s p) (lane j q) : EReal) := by
  rw [← R.hO, ← rS_idx, ← B.harg4.readAt_unread (Val := Elt Ideal) B.x2]
  rw [wF8, flat_apply]

theorem wX_apply (s j : ℕ) (p : Fin 32) (q : Fin 128) : wX B s j (ix2 p q) = (R.X (row s p) (lane j q) : EReal) := by
  rw [← wX8_apply]; rfl

theorem bOf_cases (i : grid0.Coords) : bOf i = 0 ∨ bOf i = 1 := by
  generalize bOf i = b; fin_cases b <;> simp

theorem first_zero {i : grid0.Coords} (h : bOf i = 0) : Scalar.cmpi .eq (BitVec.ofNat 32 (i 0)) 0#32 = 1#1 := by
  have h' : (i 0).val = 0 := congrArg Fin.val h
  rw [h']; rfl
theorem first_one {i : grid0.Coords} (h : bOf i = 1) : Scalar.cmpi .eq (BitVec.ofNat 32 (i 0)) 0#32 = 0#1 := by
  have h' : (i 0).val = 1 := congrArg Fin.val h
  rw [h']; rfl

theorem modOf_apply (i : grid0.Coords) (v : Vec Ideal S2x3072 .f32) (l : Fin 3072) :
    modOf i v (ix2 0 l) = 1 + v (ix2 (bOf i) l) := by
  obtain h | h := bOf_cases i
  · unfold modOf; rw [first_zero h, h, show ∀ a b : FVec Ideal S1x3072 .f32, Scalar.select 1#1 a b = a from fun _ _ => rfl]
    pointwise
  · unfold modOf; rw [first_one h, h, show ∀ a b : FVec Ideal S1x3072 .f32, Scalar.select 0#1 a b = b from fun _ _ => rfl]
    pointwise

theorem colOf_apply (i : grid0.Coords) (v : Vec Ideal S2x128 .f32) (r : Fin 128) :
    colOf i v (ix2 r 0) = v (ix2 (bOf i) r) := by
  obtain h | h := bOf_cases i
  · unfold colOf; rw [first_zero h, h, show ∀ a b : FVec Ideal S1x128 .f32, Scalar.select 1#1 a b = a from fun _ _ => rfl]
    pointwise
  · unfold colOf; rw [first_one h, h, show ∀ a b : FVec Ideal S1x128 .f32, Scalar.select 0#1 a b = b from fun _ _ => rfl]
    pointwise

theorem strip_apply (v : FVec Ideal S128x1 .f32) (s : ℕ) (p : Fin 32) :
    extractStridedSlice S32x1 ![32 * (s % 4), 0] v (slicesCol s) (ix2 p 0) = v (ix2 (row s p) 0) := by
  rw [extractStridedSlice_apply]
  intro a; fin_cases a <;> simp [row]

theorem wA_apply (s : ℕ) (p : Fin 32) : wA B s (ix2 p 0) = (R.A (row s p) : EReal) := by
  rw [← R.hA, ← B.harg3.readAt_unread (Val := Elt Ideal) B.x1, wA, strip_apply, colOf_apply]
theorem wB_apply (s : ℕ) (p : Fin 32) : wB B s (ix2 p 0) = (R.D (row s p) : EReal) := by
  rw [← R.hD, ← B.harg6.readAt_unread (Val := Elt Ideal) B.x4, wB, strip_apply, colOf_apply]
theorem wC_apply (s : ℕ) (p : Fin 32) : wC B s (ix2 p 0) = (R.C (row s p) : EReal) := by
  rw [← R.hC, ← B.harg8.readAt_unread (Val := Elt Ideal) B.x6, wC, strip_apply, colOf_apply]

theorem rM_idx (j : ℕ) (q : Fin 128) : (rM j).toLoadRect.idx (ix2 0 q) = ix2 0 (lane j q) := by
  funext a; apply Fin.ext; fin_cases a <;> simp [LoadRect.idx, lane]
theorem rC_idx (j : ℕ) (p : Fin 32) (q : Fin 128) : (rC j).toLoadRect.idx (ix2 p q) = ix2 p (lane j q) := by
  funext a; apply Fin.ext; fin_cases a <;> simp [LoadRect.idx, lane]
theorem rR_idx (s j : ℕ) (p : Fin 32) (q : Fin 128) : (rR s j).toLoadRect.idx (ix2 p q) = ix2 (row s p) (lane j q) := by
  funext a; apply Fin.ext; fin_cases a <;> simp [LoadRect.idx, row, lane]
theorem rG_idx (j : ℕ) (p : Fin 8) (q : Fin 128) : (rG j).toLoadRect.idx (ix2 p q) = ix2 p (lane j q) := by
  funext a; apply Fin.ext; fin_cases a <;> simp [LoadRect.idx, lane]

theorem wMod_apply (l : Fin 3072) : wMod B (ix2 0 l) = ((1 + R.M l : ℝ) : EReal) := by
  rw [wMod, modOf_apply, B.harg9.readAt_unread, EReal.coe_add, ← R.hM, EReal.coe_one]
  congr 2
  funext a; apply Fin.ext; fin_cases a <;> simp [LoadRect.idx]

theorem emb_eq {s : Shape} (r : Rect s) (x : r.shape.Idx) : r.emb x = r.toLoadRect.idx x := rfl

theorem pMod_canon (l : Fin 3072) : View.canon (Val := Elt Ideal) (pMod B) (ix2 0 l) = ((1 + R.M l : ℝ) : EReal) := by
  have h := View.canon_cons_emb (Val := Elt Ideal) (e := .f32) (Rect.unit (s := S1x3072) ![0, 0] S1x3072.size inb_S1x3072_S1x3072_0_0)
    (shapeCast S1x3072 (wMod B) shapeCasts_S1x3072_S1x3072) [] (ix2 0 l)
  have e : (Rect.unit (s := S1x3072) ![0, 0] S1x3072.size inb_S1x3072_S1x3072_0_0).emb (ix2 0 l) = ix2 0 l := by
    rw [emb_eq]; funext a; apply Fin.ext; fin_cases a <;> simp [LoadRect.idx]
  rw [e] at h
  rw [pMod, h, ← wMod_apply R]
  pointwise

theorem wU_apply (s j : ℕ) (p : Fin 32) (q : Fin 128) :
    wU B s j (ix2 p q) = ((R.H (row s p) (lane j q) * (1 + R.M (lane j q)) : ℝ) : EReal) := by
  rw [EReal.coe_mul, ← pMod_canon R, ← wH8_apply R, ← rM_idx, wU, View.readCov_eq_canon']
  pointwise

/-! ## Sums over a row -/

theorem coe_sum {ι : Type} (t : Finset ι) (f : ι → ℝ) : (∑ i ∈ t, (f i : EReal)) = ((∑ i ∈ t, f i : ℝ) : EReal) := by
  classical
  induction t using Finset.induction with
  | empty => simp
  | insert a t h ih => rw [Finset.sum_insert h, Finset.sum_insert h, ih, EReal.coe_add]

theorem chain_apply (W g : ℕ → FVec Ideal S32x128 .f32) (f : ℕ → Fin 32 → Fin 128 → ℝ) (h0 : W 0 = wZero)
    (hs : ∀ n, W (n + 1) = addf (W n) (g n)) (hg : ∀ n p q, g n (ix2 p q) = (f n p q : EReal)) (n : ℕ) (p : Fin 32) (q : Fin 128) :
    W n (ix2 p q) = ((∑ j ∈ Finset.range n, f j p q : ℝ) : EReal) := by
  induction n with
  | zero => rw [h0]; pointwise [wZero]; simp
  | succ n ih => rw [hs, addf_apply, ih, hg, Finset.sum_range_succ]; rfl

theorem rowSum_apply (v : FVec Ideal S32x128 .f32) (p : Fin 32) : rowSum v (ix2 p 0) = ∑ q : Fin 128, v (ix2 p q) := by
  pointwise [rowSum]

theorem sum_lanes (f : Fin 3072 → ℝ) : (∑ q : Fin 128, ∑ j ∈ Finset.range 24, f (lane j q)) = ∑ l, f l := by
  rw [Finset.sum_comm, Finset.sum_range, ← Finset.sum_product']
  refine Finset.sum_bij' (fun a _ => lane a.1 a.2) (fun l _ => (⟨l / 128, by omega⟩, ⟨l % 128, by omega⟩)) ?_ ?_ ?_ ?_ ?_
  · simp
  · simp
  · rintro ⟨a, b⟩ _
    refine Prod.ext (Fin.ext ?_) (Fin.ext ?_) <;> simp only [lane] <;> omega
  · intro l _; apply Fin.ext; simp only [lane]; omega
  · simp

theorem total_apply (W g : ℕ → FVec Ideal S32x128 .f32) (f : Fin 32 → Fin 3072 → ℝ) (h0 : W 0 = wZero)
    (hs : ∀ n, W (n + 1) = addf (W n) (g n)) (hg : ∀ n p q, g n (ix2 p q) = (f p (lane n q) : EReal)) (p : Fin 32) :
    rowSum (W 24) (ix2 p 0) = ((∑ l, f p l : ℝ) : EReal) := by
  rw [rowSum_apply, ← sum_lanes (f p), ← coe_sum]
  exact Finset.sum_congr rfl fun q _ => chain_apply W g (fun n p q => f p (lane n q)) h0 hs hg 24 p q

/-- The code row times `1 + mod`. -/
def Reals.U (r : Fin 128) (l : Fin 3072) : ℝ := R.H r l * (1 + R.M l)

theorem wTx_apply (s : ℕ) (p : Fin 32) : wTx B s (ix2 p 0) = ((∑ l, R.X (row s p) l : ℝ) : EReal) :=
  total_apply (wSX B s) (wX B s) (fun p => R.X (row s p)) rfl (fun _ => rfl) (wX_apply R s) p
theorem wTxx_apply (s : ℕ) (p : Fin 32) : wTxx B s (ix2 p 0) = ((∑ l, R.X (row s p) l * R.X (row s p) l : ℝ) : EReal) :=
  total_apply (wSXX B s) (fun n => mulf (wX B s n) (wX B s n)) (fun p l => R.X (row s p) l * R.X (row s p) l) rfl (fun _ => rfl)
    (fun n p q => by rw [mulf_apply, wX_apply R]; exact (EReal.coe_mul _ _).symm) p
theorem wTu_apply (s : ℕ) (p : Fin 32) : rowSum (wSU B s 24) (ix2 p 0) = ((∑ l, R.U (row s p) l : ℝ) : EReal) :=
  total_apply (wSU B s) (wU B s) (fun p => R.U (row s p)) rfl (fun _ => rfl) (wU_apply R s) p
theorem wTxu_apply (s : ℕ) (p : Fin 32) : rowSum (wSXU B s 24) (ix2 p 0) = ((∑ l, R.X (row s p) l * R.U (row s p) l : ℝ) : EReal) :=
  total_apply (wSXU B s) (fun n => mulf (wX B s n) (wU B s n)) (fun p l => R.X (row s p) l * R.U (row s p) l) rfl (fun _ => rfl)
    (fun n p q => by rw [mulf_apply, wX_apply R, wU_apply R]; exact (EReal.coe_mul _ _).symm) p

/-! ## The row's statistics -/

theorem inv_n : (Named.named κ "inv_n" 0x39AAAAAB#32 : Ideal .f32) = ((1 / 3072 : ℝ) : EReal) :=
  IdealRules.named_const.ideal_named_scalar _ _ _ _ rfl
theorem inv_n2 : (Named.named κ "inv_n2" 0x33E38E39#32 : Ideal .f32) = ((1 / 9437184 : ℝ) : EReal) :=
  IdealRules.named_const.ideal_named_scalar _ _ _ _ rfl

theorem wMx_apply (s : ℕ) (p : Fin 32) : wMx B s (ix2 p 0) = (Cert.Row.mxK (R.X (row s p)) : EReal) := by
  rw [wMx, mulf_apply, wTx_apply R, Cert.Row.mxK, EReal.coe_mul, ← inv_n]; rfl
theorem wMu_apply (s : ℕ) (p : Fin 32) : wMu B s (ix2 p 0) = (Cert.Row.muK (R.U (row s p)) : EReal) := by
  rw [wMu, mulf_apply, wTu_apply R, Cert.Row.muK, EReal.coe_mul, ← inv_n]; rfl
theorem wMxu_apply (s : ℕ) (p : Fin 32) : wMxu B s (ix2 p 0) = (Cert.Row.mxuK (R.X (row s p)) (R.U (row s p)) : EReal) := by
  rw [wMxu, mulf_apply, wTxu_apply R, Cert.Row.mxuK, EReal.coe_mul, ← inv_n]; rfl

theorem select_le (a b : Ideal .f32) (x y : BitVec 32) :
    Scalar.select (FloatOps.cmpf .ole a b) x y = if a ≤ b then x else y := by
  rw [Ideal.cmpf_def, Scalar.select_def]
  exact if_congr (Ideal.cmp_ole_eq_one ..) rfl rfl

theorem expoStep_apply (v : FVec Ideal S32x1 .f32) (k : BitVec 32) (e : IVec S32x1 32) (i : S32x1.Idx) :
    expoStep v k e i = Cert.Quant.step (v i) k (e i) :=
  select_le _ _ _ _

theorem expo_apply (v : FVec Ideal S32x1 .f32) (i : S32x1.Idx) : expo v i = Cert.Quant.expo (v i) := by
  simp only [expo, expoStep_apply, Cert.Quant.expo]; rfl

/-- The leading bits of a real number are a real number. -/
theorem hiPart_real (v : FVec Ideal S32x1 .f32) (i : S32x1.Idx) (r : ℝ) (h : v i = (r : EReal)) :
    ∃ x : ℝ, hiPart v i = (x : EReal) := by
  have ha : absf v i = ((|r| : ℝ) : EReal) := by
    rw [show absf v i = max (v i) (-(v i)) from rfl, h, ← EReal.coe_neg, abs_eq_max_neg]
    exact EReal.coe_strictMono.monotone.map_max.symm
  obtain ⟨k, hk, he, -, -⟩ := Cert.Quant.expo_spec |r| (abs_nonneg r)
  obtain ⟨a, h1⟩ := Cert.Quant.pw_real k hk
  obtain ⟨b, h2⟩ := Cert.Quant.pw_real (254 - k) (by omega)
  have hq : mulf v (mulf (bitcastToFloat .f32 (subi (broadcast S32x1 0x7F000000#32) (expo (absf v)))) (broadcast S32x1 (Scalar.ofBits .f32 0x45000000#32))) i
      = ((r * (b * 2048) : ℝ) : EReal) := by
    rw [mulf_apply, mulf_apply, h, EReal.coe_mul, EReal.coe_mul, ← h2, ← Cert.Quant.lit_2048, Cert.Quant.pw, ← Cert.Quant.flip k hk, ← he, ← ha,
      ← expo_apply]; rfl
  have hu : mulf (F := Ideal) (bitcastToFloat .f32 (expo (absf v))) (broadcast S32x1 (Scalar.ofBits .f32 0x3A000000#32)) i
      = ((a * (1 / 2048) : ℝ) : EReal) := by
    rw [mulf_apply, EReal.coe_mul, ← h1, ← Cert.Quant.lit_ulp, Cert.Quant.pw, ← he, ← ha, ← expo_apply]; rfl
  unfold hiPart
  rw [mulf_apply, hu]
  have hs : ∀ (c : IVec S32x1 1) (x y : FVec Ideal S32x1 .f32), select c x y i = x i ∨ select c x y i = y i := by
    intro c x y
    rw [show select c x y i = Scalar.select (c i) (x i) (y i) from rfl, Scalar.select_def]
    split <;> simp
  obtain h' | h' := hs _ _ _
  · rw [h', show ∀ w : FVec Ideal S32x1 .f32, ceil w i = Ideal.liftRound Int.ceil (w i) from fun _ => rfl, hq]
    exact ⟨_, (EReal.coe_mul _ _).symm⟩
  · rw [h', show ∀ w : FVec Ideal S32x1 .f32, floor w i = Ideal.liftRound Int.floor (w i) from fun _ => rfl, hq]
    exact ⟨_, (EReal.coe_mul _ _).symm⟩

theorem centred_apply (t q hi lo : FVec Ideal S32x1 .f32) (i : S32x1.Idx) (a b c d : ℝ) (hq : q i = (b : EReal))
    (hh : hi i = (c : EReal)) (hl : lo i = (d : EReal)) :
    centred t q hi lo i = ((3072 * b - (c + d) * (c + d) : ℝ) : EReal) := by
  have e : centred t q hi lo i = ((((b * 2048 - c * c) + b * 1024) - 2 * (c * d)) - d * d : ℝ) := by
    push_cast [EReal.coe_mul, EReal.coe_add, EReal.coe_sub]
    have h3 := Cert.Quant.lit_2048; have h4 := Cert.Quant.lit_1024; have h5 := Cert.Quant.lit_two
    push_cast at h3 h4 h5
    rw [← hq, ← hh, ← hl, ← h3, ← h4, ← h5]; rfl
  rw [e]; congr 1; ring

theorem rsqrt_pos (r : ℝ) (h : 0 < r) : Ideal.rsqrt (r : EReal) = (((Real.sqrt r)⁻¹ : ℝ) : EReal) := by
  show (if r < 0 then (⊥ : EReal) else if r = 0 then ⊤ else ((Real.sqrt r)⁻¹ : ℝ)) = _
  rw [if_neg h.not_gt, if_neg h.ne']

theorem wRstd_apply (s : ℕ) (p : Fin 32) :
    wRstd B s (ix2 p 0) = (Cert.Row.rstdK (R.X (row s p)) (R.A (row s p)) : EReal) := by
  obtain ⟨c, hc⟩ := hiPart_real (wTx B s) (ix2 p 0) _ (wTx_apply R s p)
  have hl : wLo B s (ix2 p 0) = (((∑ l, R.X (row s p) l) - c : ℝ) : EReal) := by
    rw [wLo, subf_apply, wTx_apply R, show wHi B s (ix2 p 0) = _ from hc]; exact (EReal.coe_sub _ _).symm
  have hd := centred_apply (wTx B s) (wTxx B s) (wHi B s) (wLo B s) (ix2 p 0) 0 _ _ _ (wTxx_apply R s p) hc hl
  have hv : addf (mulf (mulf (centred (wTx B s) (wTxx B s) (wHi B s) (wLo B s)) (broadcast S32x1 (Named.named κ "inv_n2" 0x33E38E39#32))) (mulf (wA B s) (wA B s)))
    (broadcast S32x1 (Scalar.ofBits .f32 0x358637BD#32)) (ix2 p 0) = ((Cert.Row.varK (R.X (row s p)) (R.A (row s p)) + Cert.Row.eps : ℝ) : EReal) := by
    rw [addf_apply, mulf_apply, mulf_apply, mulf_apply, hd, wA_apply R, show broadcast S32x1 (Named.named κ "inv_n2" 0x33E38E39#32 : Ideal .f32) (ix2 p 0) = _ from inv_n2,
      show broadcast S32x1 (Scalar.ofBits .f32 0x358637BD#32 : Ideal .f32) (ix2 p 0) = _ from Cert.Quant.lit_eps,
      Cert.Row.varK, Cert.Row.eps, EReal.coe_add, EReal.coe_mul, EReal.coe_mul, EReal.coe_mul]
    congr 5; ring
  rw [wRstd, show ∀ w : FVec Ideal S32x1 .f32, rsqrt w (ix2 p 0) = Ideal.rsqrt (w (ix2 p 0)) from fun _ => rfl, hv, rsqrt_pos _ (Cert.Row.varK_pos _ _)]
  rfl

theorem wCra_apply (s : ℕ) (p : Fin 32) :
    wCra B s (ix2 p 0) = (Cert.Row.craK (R.X (row s p)) (R.A (row s p)) (R.C (row s p)) : EReal) := by
  rw [wCra, wRa, mulf_apply, mulf_apply, wRstd_apply R, wA_apply R, wC_apply R, Cert.Row.craK, EReal.coe_mul, EReal.coe_mul]; rfl
theorem wGx_apply (s : ℕ) (p : Fin 32) :
    wGx B s (ix2 p 0) = (Cert.Row.gxK (R.X (row s p)) (R.U (row s p)) (R.A (row s p)) (R.C (row s p)) : EReal) := by
  rw [wGx, mulf_apply, subf_apply, mulf_apply, wCra_apply R, wMx_apply R, wMu_apply R, wMxu_apply R, Cert.Row.gxK, EReal.coe_mul, EReal.coe_sub, EReal.coe_mul]; rfl
theorem wAlpha_apply (s : ℕ) (p : Fin 32) :
    wAlpha B s (ix2 p 0) = (Cert.Row.alphaK (R.X (row s p)) (R.A (row s p)) (R.C (row s p)) : EReal) := by
  rw [wAlpha, mulf_apply, wRstd_apply R, wC_apply R, Cert.Row.alphaK, EReal.coe_mul]; rfl
theorem wBeta_apply (s : ℕ) (p : Fin 32) :
    wBeta B s (ix2 p 0) = (Cert.Row.betaK (R.X (row s p)) (R.U (row s p)) (R.A (row s p)) (R.C (row s p)) : EReal) := by
  rw [wBeta, wRa, mulf_apply, mulf_apply, mulf_apply, wRstd_apply R, wA_apply R, wGx_apply R, Cert.Row.betaK, EReal.coe_mul, EReal.coe_mul, EReal.coe_mul]; rfl
theorem wGamma_apply (s : ℕ) (p : Fin 32) :
    wGamma B s (ix2 p 0) = (Cert.Row.gammaK (R.X (row s p)) (R.U (row s p)) (R.A (row s p)) (R.C (row s p)) : EReal) := by
  rw [wGamma, subf_apply, mulf_apply, mulf_apply, wBeta_apply R, wMx_apply R, wAlpha_apply R, wMu_apply R, Cert.Row.gammaK, EReal.coe_sub, EReal.coe_mul, EReal.coe_mul]; rfl

end Cert.KernelIdeal.Gen

end
-- ==== Proof.KernelGrad.lean ====
/- The three gradient rows a block contributes, over the extended reals: the weights the body stores, the gate
   products it sums, and the two matrix products. -/
module

public import proofs.«01_k».proof.Proof.KernelRead

@[expose] public section

noncomputable section

namespace Cert.KernelIdeal.Gen

open Idealize.ShloMosaic Idealize.ShloMosaic.TcCoe Idealize.SL.Sem

variable {B : Body Ideal} (R : Reals B)

theorem row_div (r : Fin 128) : row (r / 32) ⟨r % 32, by omega⟩ = r := by apply Fin.ext; simp only [row]; omega
theorem lane_div (l : Fin 3072) : lane (l / 128) ⟨l % 128, by omega⟩ = l := by apply Fin.ext; simp only [lane]; omega
theorem lane_div' (m : ℕ) (l : Fin 3072) (h : m % 24 = l / 128) : lane m ⟨l % 128, by omega⟩ = l := by
  apply Fin.ext; simp only [lane]; omega

/-! ## The weights -/

/-- The three weights of a row. -/
def Reals.w (r : Fin 128) : ℕ → ℝ
  | 0 => R.C r
  | 1 => Cert.Row.craK (R.X r) (R.A r) (R.C r)
  | _ => (0 - Cert.Row.craK (R.X r) (R.A r) (R.C r)) * Cert.Row.mxK (R.X r)

theorem rW_idx (s k : ℕ) (p : Fin 32) : (rW s k).toLoadRect.idx (ix2 p 0) = ix2 (row s p) ⟨k % 3, by omega⟩ := by
  funext a; apply Fin.ext; fin_cases a <;> simp [LoadRect.idx, row]

/-- The array the weights' stores write. -/
def Reals.wArr (y : S128x128.Idx) : EReal := (R.w (y 0) (y 1).val : EReal)

theorem pW_piece (n k : ℕ) (v : FVec Ideal S32x1 .f32) (h : ∀ p, v (ix2 p 0) = (R.w (row n p) (k % 3) : EReal)) (x : S32x1.Idx) :
    shapeCast S32x1 v shapeCasts_S32x1_S32x1 x = R.wArr ((rW n k).emb x) := by
  obtain ⟨a, rfl⟩ : ∃ a : Fin 32, x = ix2 a 0 := by
    refine ⟨x 0, ?_⟩
    funext i; fin_cases i
    · rfl
    · exact Subsingleton.elim (α := Fin 1) _ _
  rw [shapeCast_self, h]
  exact (congrArg R.wArr (rW_idx n k a)).symm

theorem pW_pieces : ∀ n, ∀ p ∈ pW B n, ∀ x : p.1.shape.Idx, p.2 x = R.wArr (p.1.emb x)
  | 0, p, hp, x => by simp [pW] at hp
  | n + 1, p, hp, x => by
    rw [pW, List.mem_cons, List.mem_cons, List.mem_cons] at hp
    obtain rfl | rfl | rfl | hp := hp
    · refine pW_piece R n 2 (mulf (subf (broadcast S32x1 (Scalar.ofBits .f32 0x00000000#32)) (wCra B n)) (wMx B n)) (fun p => ?_) x
      rw [mulI, subI, wCra_apply R, wMx_apply R]
      show (Ideal.ofBits .f32 0x00000000#32 - _) * _ = _
      rw [Ideal.ofBits_zero_f32, ← EReal.coe_zero, ← EReal.coe_sub, ← EReal.coe_mul]; rfl
    · exact pW_piece R n 1 _ (fun p => wCra_apply R n p) x
    · exact pW_piece R n 0 _ (fun p => wC_apply R n p) x
    · exact pW_pieces n p hp x

theorem pW_mem (s k : ℕ) (hk : k < 3) : ∀ n, s < n → ∃ w, (⟨rW s k, w⟩ : View.Piece (Elt Ideal) S128x128 .f32) ∈ pW B n
  | 0, h => by omega
  | n + 1, h => by
    obtain h' | h' := Nat.lt_or_ge s n
    · obtain ⟨w, hw⟩ := pW_mem s k hk n h'
      exact ⟨w, by rw [pW]; simp only [List.mem_cons]; exact .inr (.inr (.inr hw))⟩
    · obtain rfl : s = n := by omega
      rw [pW]
      obtain rfl | rfl | rfl : k = 0 ∨ k = 1 ∨ k = 2 := by omega
      · exact ⟨_, by simp only [List.mem_cons]; exact .inr (.inr (.inl rfl))⟩
      · exact ⟨_, by simp only [List.mem_cons]; exact .inr (.inl rfl)⟩
      · exact ⟨_, by simp only [List.mem_cons]; exact .inl rfl⟩

theorem wW_apply (r : Fin 128) (k : Fin 128) (hk : k.val < 3) : wW B (ix2 r k) = (R.w r k : EReal) := by
  have e : (Rect.unit (s := S128x128) ![0, 0] S128x128.size inb_S128x128_S128x128_0_0).toLoadRect.idx (ix2 r k) = ix2 r k := by
    funext a; apply Fin.ext; fin_cases a <;> simp [LoadRect.idx]
  have m : ∃ p ∈ pW B 4, ix2 r k ∈ p.1.set := by
    obtain ⟨w, hw⟩ := pW_mem (B := B) (r / 32) k hk 4 (by omega)
    refine ⟨_, hw, ?_⟩
    have := (rW (r / 32) k).toLoadRect.idx_mem (ix2 ⟨r % 32, by omega⟩ 0)
    rw [rW_idx, row_div, show (⟨k.val % 3, by omega⟩ : Fin 128) = k from Fin.ext (by simp only; omega)] at this
    exact this
  rw [wW, View.readAt_apply, e, View.read_writes_apply_eq_canon _ _ _ _ m,
    View.canon_apply_of_pieces (Val := Elt Ideal) (e := .f32) R.wArr _ (pW_pieces R 4) _ m]
  rfl

/-! ## The incoming gradient's codes and their products with `x`, kept for the block -/

theorem block_piece (G : Fin 128 → Fin 3072 → ℝ) (n j : ℕ) (v : FVec Ideal S32x128 .bf16)
    (h : ∀ p q, v (ix2 p q) = (G (row n p) (lane j q) : EReal)) (x : S32x128.Idx) :
    shapeCast S32x128 v shapeCasts_S32x128_S32x128 x = (fun y : S128x3072.Idx => (G (y 0) (y 1) : EReal)) ((rR n j).emb x) := by
  obtain ⟨a, b, rfl⟩ : ∃ (a : Fin 32) (b : Fin 128), x = ix2 a b := ⟨x 0, x 1, (ix2_eta x).symm⟩
  rw [shapeCast_self, h]
  exact (congrArg (fun y : S128x3072.Idx => (G (y 0) (y 1) : EReal)) (rR_idx n j a b)).symm

theorem pH_pieces : ∀ n, ∀ p ∈ pH B n, ∀ x : p.1.shape.Idx, p.2 x = (fun y : S128x3072.Idx => (R.H (y 0) (y 1) : EReal)) (p.1.emb x)
  | 0, p, hp, x => by simp [pH] at hp
  | n + 1, p, hp, x => by
    rw [pH, List.mem_cons] at hp
    obtain rfl | hp := hp
    · exact block_piece R.H (n / 24) n _ (fun p q => wH8_apply R (n / 24) n p q) x
    · exact pH_pieces n p hp x
theorem pP_pieces : ∀ n, ∀ p ∈ pP B n, ∀ x : p.1.shape.Idx,
    p.2 x = (fun y : S128x3072.Idx => ((R.X (y 0) (y 1) * R.H (y 0) (y 1) : ℝ) : EReal)) (p.1.emb x)
  | 0, p, hp, x => by simp [pP] at hp
  | n + 1, p, hp, x => by
    rw [pP, List.mem_cons] at hp
    obtain rfl | hp := hp
    · refine block_piece (fun r l => R.X r l * R.H r l) (n / 24) n
        (mulf (extf .bf16 (wX8 B (n / 24) n) bitsLt_fp8e4m3_bf16) (extf .bf16 (wH8 B (n / 24) n) bitsLt_fp8e5m2_bf16)) (fun p q => ?_) x
      rw [mulI, EReal.coe_mul, ← wX8_apply R, ← wH8_apply R]; rfl
    · exact pP_pieces n p hp x

theorem pH_mem (m : ℕ) : ∀ n, m < n → ∃ w, (⟨rR (m / 24) m, w⟩ : View.Piece (Elt Ideal) S128x3072 .bf16) ∈ pH B n
  | 0, h => by omega
  | n + 1, h => by
    obtain h' | h' := Nat.lt_or_ge m n
    · obtain ⟨w, hw⟩ := pH_mem m n h'
      exact ⟨w, by rw [pH]; exact List.mem_cons_of_mem _ hw⟩
    · obtain rfl : m = n := by omega
      exact ⟨_, by rw [pH]; exact List.mem_cons_self⟩
theorem pP_mem (m : ℕ) : ∀ n, m < n → ∃ w, (⟨rR (m / 24) m, w⟩ : View.Piece (Elt Ideal) S128x3072 .bf16) ∈ pP B n
  | 0, h => by omega
  | n + 1, h => by
    obtain h' | h' := Nat.lt_or_ge m n
    · obtain ⟨w, hw⟩ := pP_mem m n h'
      exact ⟨w, by rw [pP]; exact List.mem_cons_of_mem _ hw⟩
    · obtain rfl : m = n := by omega
      exact ⟨_, by rw [pP]; exact List.mem_cons_self⟩

theorem mem_rR (r : Fin 128) (l : Fin 3072) : ix2 r l ∈ (rR ((24 * (r / 32) + l / 128) / 24) (24 * (r / 32) + l / 128)).set := by
  have := (rR ((24 * (r / 32) + l / 128) / 24) (24 * (r / 32) + l / 128)).toLoadRect.idx_mem (ix2 ⟨r % 32, by omega⟩ ⟨l % 128, by omega⟩)
  rw [rR_idx, lane_div' _ _ (by omega), show (24 * (r.val / 32) + l.val / 128) / 24 = r / 32 from by omega, row_div] at this
  rw [show (24 * (r.val / 32) + l.val / 128) / 24 = r / 32 from by omega]
  exact this

theorem whole_idx (r : Fin 128) (l : Fin 3072) :
    (Rect.unit (s := S128x3072) ![0, 0] S128x3072.size inb_S128x3072_S128x3072_0_0).toLoadRect.idx (ix2 r l) = ix2 r l := by
  funext a; apply Fin.ext; fin_cases a <;> simp [LoadRect.idx]

theorem wHfull_apply (r : Fin 128) (l : Fin 3072) : wHfull B (ix2 r l) = (R.H r l : EReal) := by
  have m : ∃ p ∈ pH B 96, ix2 r l ∈ p.1.set := by
    obtain ⟨w, hw⟩ := pH_mem (B := B) (24 * (r / 32) + l / 128) 96 (by omega)
    exact ⟨_, hw, mem_rR r l⟩
  rw [wHfull, readCov_apply, whole_idx, View.canon_apply_of_pieces (Val := Elt Ideal) (e := .bf16) (fun y : S128x3072.Idx => (R.H (y 0) (y 1) : EReal)) _ (pH_pieces R 96) _ m]; rfl
theorem wPfull_apply (r : Fin 128) (l : Fin 3072) : wPfull B (ix2 r l) = ((R.X r l * R.H r l : ℝ) : EReal) := by
  have m : ∃ p ∈ pP B 96, ix2 r l ∈ p.1.set := by
    obtain ⟨w, hw⟩ := pP_mem (B := B) (24 * (r / 32) + l / 128) 96 (by omega)
    exact ⟨_, hw, mem_rR r l⟩
  rw [wPfull, readCov_apply, whole_idx, View.canon_apply_of_pieces (Val := Elt Ideal) (e := .bf16) (fun y : S128x3072.Idx => ((R.X (y 0) (y 1) * R.H (y 0) (y 1) : ℝ) : EReal)) _ (pP_pieces R 96) _ m]; rfl

/-! ## The gate products -/

theorem wDy_apply (s j : ℕ) (p : Fin 32) (q : Fin 128) :
    wDy B s j (ix2 p q) = ((R.Y (row s p) (lane j q) * R.D (row s p) : ℝ) : EReal) := by
  have e : wDy B s j (ix2 p q) = wY8 B s j (ix2 p q) * wB B s (ix2 p 0) := by pointwise [wDy]
  rw [e, wY8_apply R, wB_apply R, EReal.coe_mul]

/-- The gate product at a row and lane. -/
def Reals.gate (r : Fin 128) (l : Fin 3072) : ℝ := R.Y r l * R.D r * R.O r l

theorem wGate_apply (s j : ℕ) (p : Fin 32) (q : Fin 128) : wGate B s j (ix2 p q) = (R.gate (row s p) (lane j q) : EReal) := by
  rw [wGate, mulI, wDy_apply R, show ∀ v : FVec Ideal S32x128 .bf16, extf .f32 v bitsLt_bf16_f32 = v from fun _ => rfl, wF8_apply R, ← EReal.coe_mul]; rfl

/-- The four rows of a strip folded into row `a` of eight. -/
def Reals.fold (s : ℕ) (a : Fin 8) (l : Fin 3072) : ℝ := ∑ i : Fin 4, R.gate (row s ⟨8 * i + a, by omega⟩) l

theorem fold8_apply (s j : ℕ) (a : Fin 8) (q : Fin 128) : fold8 (wGate B s j) (ix2 a q) = (R.fold s a (lane j q) : EReal) := by
  have e : fold8 (wGate B s j) (ix2 a q) = wGate B s j (ix2 ⟨a, by omega⟩ q) + wGate B s j (ix2 ⟨8 + a, by omega⟩ q)
      + (wGate B s j (ix2 ⟨16 + a, by omega⟩ q) + wGate B s j (ix2 ⟨24 + a, by omega⟩ q)) := by pointwise [fold8]
  rw [e, wGate_apply R, wGate_apply R, wGate_apply R, wGate_apply R, ← EReal.coe_add, ← EReal.coe_add, ← EReal.coe_add,
    Reals.fold, Fin.sum_univ_four]
  congr 1
  simp [row, add_assoc]

/-- What the accumulator holds after `n` chunks. -/
def Reals.acc (n : ℕ) (a : Fin 8) (l : Fin 3072) : ℝ := ∑ m ∈ Finset.range n, if m % 24 = l / 128 then R.fold (m / 24) a l else 0

theorem not_mem_rG (n : ℕ) (a : Fin 8) (l : Fin 3072) (h : n % 24 ≠ l / 128) : ix2 a l ∉ (rG n).set := by
  refine Rect.not_mem_set_of_axis _ _ 1 (128 * (n % 24)) 128 rfl rfl rfl ?_
  show l.val < _ ∨ _ ≤ l.val
  omega

theorem pG_emb (n : ℕ) (a : Fin 8) (q : Fin 128) : View.canon (Val := Elt Ideal) (pG B (n + 1)) ((rG n).emb (ix2 a q))
    = (View.canon (Val := Elt Ideal) (pG B n) (ix2 a (lane n q)) + fold8 (wGate B (n / 24) n) (ix2 a q) : EReal) := by
  have h : ∀ (v : FVec Ideal S8x128 .f32) (i : S8x128.Idx), shapeCast S8x128 v shapeCasts_S8x128_S8x128 i = v i := by
    intro v i; rw [shapeCast_self]
  have e := View.canon_cons_emb (Val := Elt Ideal) (e := .f32) (rG n)
    (shapeCast S8x128 (addf (B.arg19.view.readCov (pG B n) (rG n).toLoadRect) (fold8 (wGate B (n / 24) n))) shapeCasts_S8x128_S8x128) (pG B n) (ix2 a q)
  refine (e.trans (h _ _)).trans ?_
  rw [addI, readCov_apply, rG_idx]

theorem not_rG (n : ℕ) (a : Fin 8) (l : Fin 3072) (h : n % 24 ≠ l / 128) :
    View.canon (Val := Elt Ideal) (pG B (n + 1)) (ix2 a l) = View.canon (Val := Elt Ideal) (pG B n) (ix2 a l) :=
  View.canon_cons_of_not_mem (Val := Elt Ideal) (e := .f32) _ _ (not_mem_rG n a l h)

theorem pG_canon : ∀ n (a : Fin 8) (l : Fin 3072), View.canon (Val := Elt Ideal) (pG B n) (ix2 a l) = (R.acc n a l : EReal)
  | 0, a, l => by
    have h := View.canon_cons_emb (Val := Elt Ideal) (e := .f32) (Rect.unit (s := S8x3072) ![0, 0] S8x3072.size inb_S8x3072_S8x3072_0_0)
      (shapeCast S8x3072 (broadcast S8x3072 (Scalar.ofBits (F := Ideal) .f32 0x00000000#32)) shapeCasts_S8x3072_S8x3072) [] (ix2 a l)
    have e : (Rect.unit (s := S8x3072) ![0, 0] S8x3072.size inb_S8x3072_S8x3072_0_0).emb (ix2 a l) = ix2 a l := by
      rw [emb_eq]; funext a; apply Fin.ext; fin_cases a <;> simp [LoadRect.idx]
    rw [e] at h
    rw [pG, h, Reals.acc, shapeCast_self]
    show Ideal.ofBits .f32 0x00000000#32 = _
    rw [Ideal.ofBits_zero_f32]; simp
  | n + 1, a, l => by
    by_cases h : n % 24 = l / 128
    · have hl : ix2 a l = (rG n).emb (ix2 a ⟨l % 128, by omega⟩) := by rw [emb_eq, rG_idx, lane_div' n l h]
      rw [hl, pG_emb, lane_div' n l h, pG_canon n a l, fold8_apply R, lane_div' n l h, Reals.acc, Reals.acc, Finset.sum_range_succ, if_pos h, EReal.coe_add]
    · rw [not_rG n a l h, pG_canon n a l, Reals.acc, Reals.acc, Finset.sum_range_succ, if_neg h, add_zero]

theorem wGfull_apply (a : Fin 8) (l : Fin 3072) : wGfull B (ix2 a l) = (R.acc 96 a l : EReal) := by
  have e : (Rect.unit (s := S8x3072) ![0, 0] S8x3072.size inb_S8x3072_S8x3072_0_0).toLoadRect.idx (ix2 a l) = ix2 a l := by
    funext a; apply Fin.ext; fin_cases a <;> simp [LoadRect.idx]
  rw [wGfull, readCov_apply, e, pG_canon R]

theorem acc_eq (a : Fin 8) (l : Fin 3072) : R.acc 96 a l = ∑ s : Fin 4, R.fold s a l := by
  rw [Reals.acc, ← Finset.sum_filter]
  refine Finset.sum_bij' (fun m hm => (⟨m / 24, by simp at hm; omega⟩ : Fin 4)) (fun s _ => 24 * s.val + l / 128) ?_ ?_ ?_ ?_ ?_
  · simp
  · intro s _; simp; omega
  · intro m hm; simp at hm; simp only; omega
  · intro s _; apply Fin.ext; simp only; omega
  · intro m hm; rfl

theorem sum_acc (l : Fin 3072) : (∑ a, R.acc 96 a l) = ∑ r, R.gate r l := by
  simp only [acc_eq, Reals.fold]
  rw [← Finset.sum_product', ← Finset.sum_product']
  refine Finset.sum_bij' (fun x _ => row x.1.2 ⟨8 * x.2 + x.1.1, by omega⟩)
    (fun r _ => ((⟨r % 8, by omega⟩, ⟨r / 32, by omega⟩), ⟨r % 32 / 8, by omega⟩)) ?_ ?_ ?_ ?_ ?_
  · simp
  · simp
  · rintro ⟨⟨a, s⟩, i⟩ _
    refine Prod.ext (Prod.ext (Fin.ext ?_) (Fin.ext ?_)) (Fin.ext ?_) <;> simp only [row] <;> omega
  · intro r _; apply Fin.ext; simp only [row]; omega
  · simp

/-! ## The rows -/

/-- What a block adds to the sample's three gradient rows. -/
def Reals.grad : Fin 3 → Fin 3072 → ℝ
  | 0, l => ∑ r, R.w r 0 * R.H r l
  | 1, l => (∑ r, R.w r 2 * R.H r l) + ∑ r, R.w r 1 * (R.X r l * R.H r l)
  | 2, l => ∑ r, R.gate r l

theorem split_sum (a b : Fin 128 → ℝ) :
    (∑ x, (a x : EReal) * (b x : EReal)) = ((∑ x, a x * b x : ℝ) : EReal) := by
  rw [← coe_sum]; exact Finset.sum_congr rfl fun x _ => (EReal.coe_mul _ _).symm
theorem split_zero (a b : Fin 128 → ℝ) : (∑ x, ((a x : EReal) - (a x : EReal)) * (b x : EReal)) = 0 :=
  Finset.sum_eq_zero fun x _ => by rw [← EReal.coe_sub, sub_self, EReal.coe_zero, zero_mul]
theorem split_zero' (a b : Fin 128 → ℝ) :
    (∑ x, ((a x : EReal) - (a x : EReal) - ((a x : EReal) - (a x : EReal))) * (b x : EReal)) = 0 :=
  Finset.sum_eq_zero fun x _ => by rw [← EReal.coe_sub, sub_self, EReal.coe_zero, sub_zero, zero_mul]

theorem wGrad_apply (k : Fin 3) (l : Fin 3072) : wGrad B (ix2 k l) = (R.grad k l : EReal) := by
  fin_cases k
  · show gradRows (wW B) (wHfull B) (wPfull B) (wGfull B) (ix2 0 l) = _
    generalize hw : wW B = w
    generalize hh : wHfull B = h
    generalize hp : wPfull B = p
    have e : gradRows w h p (wGfull B) (ix2 0 l) = ∑ x, w (ix2 x 0) * h (ix2 x l) + ∑ x : Fin 128, 0 * p (ix2 x l)
      + (∑ x, (w (ix2 x 0) - w (ix2 x 0)) * h (ix2 x l) + ∑ x : Fin 128, 0 * p (ix2 x l))
      + (∑ x, (w (ix2 x 0) - w (ix2 x 0) - (w (ix2 x 0) - w (ix2 x 0))) * h (ix2 x l) + ∑ x : Fin 128, 0 * p (ix2 x l)) := by
      pointwise [gradRows, k0_pay1804, k0_pay1805, k0_pay1806, k0_pay1807, k0_pay1808, k0_pay1809, k0_pay1810, k0_pay1811, k0_pay1812, k0_pay1813, k0_pay1814]
    rw [e, ← hw, ← hh]
    simp only [wW_apply R _ 0 (by decide), wHfull_apply R, split_zero, split_zero', zero_mul, Finset.sum_const_zero, add_zero, split_sum]
    rfl
  · show gradRows (wW B) (wHfull B) (wPfull B) (wGfull B) (ix2 1 l) = _
    generalize hw : wW B = w
    generalize hh : wHfull B = h
    generalize hp : wPfull B = p
    have e : gradRows w h p (wGfull B) (ix2 1 l) = ∑ x, w (ix2 x 2) * h (ix2 x l) + ∑ x, w (ix2 x 1) * p (ix2 x l) +
        (∑ x, (w (ix2 x 2) - w (ix2 x 2)) * h (ix2 x l) + ∑ x, (w (ix2 x 1) - w (ix2 x 1)) * p (ix2 x l)) +
      (∑ x, (w (ix2 x 2) - w (ix2 x 2) - (w (ix2 x 2) - w (ix2 x 2))) * h (ix2 x l) +
        ∑ x, (w (ix2 x 1) - w (ix2 x 1) - (w (ix2 x 1) - w (ix2 x 1))) * p (ix2 x l)) := by
      pointwise [gradRows, k0_pay1804, k0_pay1805, k0_pay1806, k0_pay1807, k0_pay1808, k0_pay1809, k0_pay1810, k0_pay1811, k0_pay1812, k0_pay1813, k0_pay1814]
    rw [e, ← hw, ← hh, ← hp]
    simp only [wW_apply R _ 1 (by decide), wW_apply R _ 2 (by decide), wHfull_apply R, wPfull_apply R, split_zero, split_zero', add_zero, split_sum, ← EReal.coe_add]
    rfl
  · show gradRows (wW B) (wHfull B) (wPfull B) (wGfull B) (ix2 2 l) = _
    generalize hg : wGfull B = g
    have e : gradRows (wW B) (wHfull B) (wPfull B) g (ix2 2 l) = ∑ x, g (ix2 x l) := by
      pointwise [gradRows, k0_pay1804, k0_pay1805, k0_pay1806, k0_pay1807, k0_pay1808, k0_pay1809, k0_pay1810, k0_pay1811, k0_pay1812, k0_pay1813, k0_pay1814]
    rw [e, ← hg]
    simp only [wGfull_apply R, coe_sum, sum_acc]
    rfl

end Cert.KernelIdeal.Gen

end
-- ==== Proof.KernelCode.lean ====
/- The gradient of `x` a block computes, its rows' scales and its codes, over the extended reals. -/
module

public import proofs.«01_k».proof.Proof.KernelGrad

@[expose] public section

noncomputable section

namespace Cert.KernelIdeal.Gen

open Idealize.ShloMosaic Idealize.ShloMosaic.TcCoe Idealize.SL.Sem

variable {B : Body Ideal} (R : Reals B)

/-! ## A strip's scratch array, stored chunk after chunk -/

theorem not_mem_rC (n : ℕ) (p : Fin 32) (l : Fin 3072) (h : n % 24 ≠ l / 128) : ix2 p l ∉ (rC n).set := by
  refine Rect.not_mem_set_of_axis _ _ 1 (128 * (n % 24)) 128 rfl rfl rfl ?_
  show l.val < _ ∨ _ ≤ l.val
  omega

theorem canon_chunk (n : ℕ) (w : FVec Ideal S32x128 .f32) (L : List (View.Piece (Elt Ideal) S32x3072 .f32)) (p : Fin 32) (q : Fin 128) :
    View.canon (Val := Elt Ideal) (⟨rC n, shapeCast S32x128 w shapeCasts_S32x128_S32x128⟩ :: L) (ix2 p (lane n q)) = w (ix2 p q) := by
  have h : ∀ (v : FVec Ideal S32x128 .f32) (i : S32x128.Idx), shapeCast S32x128 v shapeCasts_S32x128_S32x128 i = v i := by
    intro v i; rw [shapeCast_self]
  have e := View.canon_cons_emb (Val := Elt Ideal) (e := .f32) (rC n) (shapeCast S32x128 w shapeCasts_S32x128_S32x128) L (ix2 p q)
  rw [emb_eq, rC_idx] at e
  exact e.trans (h _ _)

theorem canon_off (n : ℕ) (w : FVec Ideal S32x128 .f32) (L : List (View.Piece (Elt Ideal) S32x3072 .f32)) (p : Fin 32) (l : Fin 3072)
    (h : n % 24 ≠ l / 128) :
    View.canon (Val := Elt Ideal) (⟨rC n, shapeCast S32x128 w shapeCasts_S32x128_S32x128⟩ :: L) (ix2 p l) = View.canon (Val := Elt Ideal) L (ix2 p l) :=
  View.canon_cons_of_not_mem (Val := Elt Ideal) (e := .f32) _ _ (not_mem_rC n p l h)

theorem canon_chunks (P : ℕ → List (View.Piece (Elt Ideal) S32x3072 .f32)) (w : ℕ → FVec Ideal S32x128 .f32)
    (hP : ∀ n, P (n + 1) = ⟨rC n, shapeCast S32x128 (w n) shapeCasts_S32x128_S32x128⟩ :: P n) (G : ℕ → Fin 32 → Fin 3072 → EReal)
    (hw : ∀ n p q, w n (ix2 p q) = G (n / 24) p (lane n q)) (s : ℕ) (p : Fin 32) (l : Fin 3072) :
    ∀ k ≤ 24, l.val / 128 < k → View.canon (Val := Elt Ideal) (P (24 * s + k)) (ix2 p l) = G s p l
  | 0, _, h => by omega
  | k + 1, hk, h => by
    have e := hP (24 * s + k)
    rw [show 24 * s + (k + 1) = 24 * s + k + 1 from rfl, e]
    by_cases hl : (24 * s + k) % 24 = l.val / 128
    · obtain ⟨q, rfl⟩ : ∃ q : Fin 128, lane (24 * s + k) q = l := ⟨⟨l % 128, by omega⟩, lane_div' _ l hl⟩
      rw [canon_chunk, hw, show (24 * s + k) / 24 = s from by omega]
    · rw [canon_off _ _ _ _ _ hl]
      exact canon_chunks P w hP G hw s p l k (by omega) (by
        rw [Nat.mul_add_mod, Nat.mod_eq_of_lt (by omega)] at hl; omega)

/-! ## The gradient -/

/-- The gradient of `x` at a row and lane. -/
def Reals.dx (r : Fin 128) (l : Fin 3072) : ℝ :=
  Cert.Row.dxK (R.X r) (R.U r) (R.Y r) (R.A r) (R.D r) (R.C r) l

theorem u_read (s j : ℕ) (p : Fin 32) (q : Fin 128) :
    B.arg15.view.readCov (pU B (24 * s + 24)) (rC j).toLoadRect (ix2 p q) = (R.U (row s p) (lane j q) : EReal) := by
  rw [readCov_apply, rC_idx]
  exact canon_chunks (pU B) (fun n => wU B (n / 24) n) (fun _ => rfl) (fun s p l => (R.U (row s p) l : EReal)) (fun n p q => wU_apply R _ _ _ _) s p
    (lane j q) 24 le_rfl (by simp only [lane]; omega)

theorem wDx_apply (s j : ℕ) (p : Fin 32) (q : Fin 128) : wDx B s j (ix2 p q) = (R.dx (row s p) (lane j q) : EReal) := by
  generalize hu : B.arg15.view.readCov (pU B (24 * s + 24)) (rC j).toLoadRect = u
  have e : wDx B s j (ix2 p q) = wDy B s j (ix2 p q) + (wAlpha B s (ix2 p 0) * u (ix2 p q) + wGamma B s (ix2 p 0) - wBeta B s (ix2 p 0) * wX B s j (ix2 p q)) := by
    unfold wDx
    rw [hu]
    generalize wDy B s j = y
    generalize wX B s j = x
    generalize wAlpha B s = a
    generalize wBeta B s = b
    generalize wGamma B s = c
    pointwise
  rw [e, ← hu, u_read R, wDy_apply R, wAlpha_apply R, wBeta_apply R, wGamma_apply R, wX_apply R, ← EReal.coe_mul, ← EReal.coe_add,
    ← EReal.coe_mul, ← EReal.coe_sub, ← EReal.coe_add]
  rfl

/-! ## The greatest magnitude -/

theorem wAmax_apply (s n : ℕ) (p : Fin 32) (q : Fin 128) :
    wAmax B s n (ix2 p q) = max 0 ((Finset.range n).sup fun j => ((|R.dx (row s p) (lane j q)| : ℝ) : EReal)) := by
  induction n with
  | zero =>
    rw [wAmax]
    show Ideal.ofBits .f32 0x00000000#32 = _
    rw [Ideal.ofBits_zero_f32]; simp
  | succ n ih =>
    rw [wAmax, show ∀ (a b : FVec Ideal S32x128 .f32) i, maximumf a b i = max (a i) (b i) from fun _ _ _ => rfl, ih, Finset.range_add_one, Finset.sup_insert,
      show absf (wDx B s n) (ix2 p q) = max (wDx B s n (ix2 p q)) (-(wDx B s n (ix2 p q))) from rfl, wDx_apply R, ← EReal.coe_neg, abs_eq_max_neg,
      EReal.coe_strictMono.monotone.map_max, max_assoc]
    congr 1
    exact max_comm _ _

theorem rowMax_apply (v : FVec Ideal S32x128 .f32) (p : Fin 32) :
    shapeCast S32x1 (multiReduction .maximumf [1] S32 v 0xFF800000#32 reduces_S32x128_S32 (.inl rfl) rfl) shapeCasts_S32_S32x1 (ix2 p 0)
      = Finset.univ.sup fun q : Fin 128 => (v (ix2 p q) : EReal) := by
  have e : shapeCast S32x1 (multiReduction .maximumf [1] S32 v 0xFF800000#32 reduces_S32x128_S32 (.inl rfl) rfl) shapeCasts_S32_S32x1 (ix2 p 0)
      = Finset.fold max (Ideal.ofBits .f32 0xFF800000#32) (fun x => v (ix2 p x)) Finset.univ := by pointwise
  rw [e, Cert.Quant.lit_bot]; rfl

/-- The row's greatest magnitude over the format's greatest code. -/
def Reals.z (r : Fin 128) : ℝ := Cert.Row.amax (R.dx r) * Cert.Quant.itop

theorem Reals.z_nonneg (r : Fin 128) : 0 ≤ R.z r :=
  mul_nonneg (Cert.Row.amax_nonneg _) (by unfold Cert.Quant.itop; norm_num)

theorem wZ_apply (s : ℕ) (p : Fin 32) : wZ B s (ix2 p 0) = (R.z (row s p) : EReal) := by
  have e : (Finset.univ.sup fun q : Fin 128 => (wAmax B s 24 (ix2 p q) : EReal)) = (Cert.Row.amax (R.dx (row s p)) : EReal) := by
    rw [← Cert.Row.amax_coe]
    refine le_antisymm (Finset.sup_le fun q _ => ?_) (Finset.sup_le fun l _ => ?_)
    · rw [wAmax_apply R]
      refine max_le ?_ (Finset.sup_le fun j _ => ?_)
      · refine le_trans ?_ (Finset.le_sup (f := fun l => ((|R.dx (row s p) l| : ℝ) : EReal)) (Finset.mem_univ (0 : Fin 3072)))
        exact_mod_cast abs_nonneg _
      · exact Finset.le_sup (f := fun l => ((|R.dx (row s p) l| : ℝ) : EReal)) (Finset.mem_univ (lane j q))
    · refine le_trans ?_ (Finset.le_sup (f := fun q : Fin 128 => (wAmax B s 24 (ix2 p q) : EReal)) (Finset.mem_univ (⟨l % 128, by omega⟩ : Fin 128)))
      rw [wAmax_apply R]
      refine le_trans ?_ (le_max_right _ _)
      have := Finset.le_sup (f := fun j => ((|R.dx (row s p) (lane j ⟨l % 128, by omega⟩)| : ℝ) : EReal)) (Finset.mem_range.mpr (show l.val / 128 < 24 by omega))
      rwa [lane_div] at this
  rw [wZ, mulI, rowMax_apply, e, Reals.z, EReal.coe_mul, ← Cert.Quant.lit_itop]; rfl

/-! ## Scales and codes -/

theorem scaleBits_apply (z : FVec Ideal S32x1 .f32) (i : S32x1.Idx) : scaleBits z i = Cert.Quant.sbits (Cert.Quant.expo (z i)) := by
  rw [← expo_apply]
  show Scalar.select (IntOp.cmpi .eq _ _) _ _ = _
  rw [Scalar.select_def]
  unfold Cert.Quant.sbits
  refine if_congr ?_ rfl rfl
  show BitVec.ofBool _ = 1#1 ↔ _
  generalize hx : minsi (expo z) (broadcast S32x1 2004877312#32) i = x
  have : x = (if (expo z i).slt 0x77800000#32 then expo z i else 0x77800000#32) := hx.symm
  rw [← this]
  by_cases h : x = 0#32
  · simp [h, broadcast]
  · refine iff_of_false ?_ h
    rw [show (x == broadcast S32x1 (0x00000000#32) i) = false from by simpa [broadcast] using h]
    exact (by decide : ¬ BitVec.ofBool false = 1#1)

theorem wScale_apply (s : ℕ) (p : Fin 32) : wScale B s (ix2 p 0) = (Cert.Quant.qscale (R.z (row s p)) : EReal) := by
  rw [← (Cert.Quant.scale_spec _ (R.z_nonneg _)).1, ← wZ_apply R, ← scaleBits_apply]; rfl
theorem wInv_apply (s : ℕ) (p : Fin 32) : wInv B s (ix2 p 0) = (Cert.Quant.qinv (R.z (row s p)) : EReal) := by
  rw [← (Cert.Quant.scale_spec _ (R.z_nonneg _)).2, ← wZ_apply R, ← scaleBits_apply]; rfl

/-- A value clipped to the format's range. -/
def clip (v : ℝ) : ℝ := min Cert.Quant.top (max (-Cert.Quant.top) v)

/-- The code at a row and lane. -/
def Reals.code (r : Fin 128) (l : Fin 3072) : ℝ := clip (R.dx r l * Cert.Quant.qinv (R.z r))

theorem dx_read (s j : ℕ) (p : Fin 32) (q : Fin 128) :
    B.arg16.view.readCov (pD B (24 * s + 24)) (rC j).toLoadRect (ix2 p q) = (R.dx (row s p) (lane j q) : EReal) := by
  rw [readCov_apply, rC_idx]
  exact canon_chunks (pD B) (fun n => wDx B (n / 24) (n % 24)) (fun _ => rfl) (fun s p l => (R.dx (row s p) l : EReal))
    (fun n p q => by rw [wDx_apply R]; congr 2; apply Fin.ext; simp only [lane]; omega) s p (lane j q) 24 le_rfl (by simp only [lane]; omega)

theorem wCode_apply (s j : ℕ) (p : Fin 32) (q : Fin 128) : wCode B s j (ix2 p q) = (R.code (row s p) (lane j q) : EReal) := by
  have h := dx_read R s j p q
  have h2 := wInv_apply R s p
  unfold wCode
  generalize wInv B s = v at h2
  unfold codeOf
  generalize B.arg16.view.readCov (pD B (24 * s + 24)) (rC j).toLoadRect = u at h
  have e : truncf .fp8e5m2 (minimumf (broadcast S32x128 (Scalar.ofBits .f32 0x47600000#32))
      (maximumf (broadcast S32x128 (Scalar.ofBits .f32 0xC7600000#32)) (mulf u (broadcastTo S32x128 v broadcasts_S32x1_S32x128)))) bitsLt_fp8e5m2_f32 (ix2 p q)
      = min (Ideal.ofBits .f32 0x47600000#32) (max (Ideal.ofBits .f32 0xC7600000#32) (u (ix2 p q) * v (ix2 p 0))) := by pointwise
  rw [e, h, h2, Cert.Quant.lit_top, Cert.Quant.lit_ntop, ← EReal.coe_mul, Reals.code, clip, EReal.coe_strictMono.monotone.map_min,
    EReal.coe_strictMono.monotone.map_max]

theorem pK_pieces : ∀ n, ∀ p ∈ pK B n, ∀ x : p.1.shape.Idx,
    p.2 x = (fun y : S1x128x3072.Idx => (R.code (y 1) (y 2) : EReal)) (p.1.emb x)
  | 0, p, hp, x => by simp [pK] at hp
  | n + 1, p, hp, x => by
    rw [pK, List.mem_cons] at hp
    obtain rfl | hp := hp
    · have h : ∀ x : S1x32x128.Idx, shapeCast S1x32x128 (wCode B (n / 24) n) shapeCasts_S32x128_S1x32x128 x
          = (fun y : S1x128x3072.Idx => (R.code (y 1) (y 2) : EReal)) ((rS (n / 24) n).emb x) := by
        intro x
        obtain ⟨a, b, rfl⟩ : ∃ (a : Fin 32) (b : Fin 128), x = ix3 0 a b := by
          refine ⟨x 1, x 2, ?_⟩
          funext i; fin_cases i
          · exact Subsingleton.elim (α := Fin 1) _ _
          · rfl
          · rfl
        rw [raise_apply, wCode_apply R]
        exact (congrArg (fun y : S1x128x3072.Idx => (R.code (y 1) (y 2) : EReal)) (rS_idx (n / 24) n a b)).symm
      exact h x
    · exact pK_pieces n p hp x

theorem pK_mem (m : ℕ) : ∀ n, m < n → ∃ w, (⟨rS (m / 24) m, w⟩ : View.Piece (Elt Ideal) S1x128x3072 .fp8e5m2) ∈ pK B n
  | 0, h => by omega
  | n + 1, h => by
    obtain h' | h' := Nat.lt_or_ge m n
    · obtain ⟨w, hw⟩ := pK_mem m n h'
      exact ⟨w, by rw [pK]; exact List.mem_cons_of_mem _ hw⟩
    · obtain rfl : m = n := by omega
      exact ⟨_, by rw [pK]; exact List.mem_cons_self⟩

/-- What the block's stores of codes leave. -/
theorem pK_canon (r : Fin 128) (l : Fin 3072) : ∃ p ∈ pK B 96, ix3 0 r l ∈ p.1.set := by
  obtain ⟨w, hw⟩ := pK_mem (B := B) (24 * (r / 32) + l / 128) 96 (by omega)
  refine ⟨_, hw, ?_⟩
  have := (rS ((24 * (r / 32) + l / 128) / 24) (24 * (r / 32) + l / 128)).toLoadRect.idx_mem (ix3 0 ⟨r % 32, by omega⟩ ⟨l % 128, by omega⟩)
  rw [rS_idx, lane_div' _ _ (by omega), show (24 * (r.val / 32) + l.val / 128) / 24 = r / 32 from by omega, row_div] at this
  rw [show (24 * (r.val / 32) + l.val / 128) / 24 = r / 32 from by omega]
  exact this

theorem wScaleRow_apply (r : Fin 128) : wScaleRow B (ix2 0 r) = (Cert.Quant.qscale (R.z r) : EReal) := by
  have e : wScaleRow B (ix2 0 r) = if h : r.val < 32 then wScale B 0 (ix2 ⟨r, h⟩ 0)
    else if h : r.val - 32 < 32 then wScale B 1 (ix2 ⟨r - 32, h⟩ 0)
      else if h : r.val - 32 - 32 < 32 then wScale B 2 (ix2 ⟨r - 32 - 32, h⟩ 0)
        else wScale B 3 (ix2 ⟨r - 32 - 32 - 32, by omega⟩ 0) := by
    unfold wScaleRow
    generalize wScale B 0 = a
    generalize wScale B 1 = b
    generalize wScale B 2 = c
    generalize wScale B 3 = d
    pointwise [k0_pay1803]
  rw [e]
  split_ifs <;> rw [wScale_apply R] <;> congr 3 <;> apply Fin.ext <;> simp only [row] <;> omega

end Cert.KernelIdeal.Gen

end
-- ==== Proof.Spec.lean ====
/- What the four results hold, over the reals, as the reference states them. -/
module

public import proofs.«01_k».proof.Proof.Quant
public import proofs.«01_k».proof.Proof.RowMath
public import Idealize.ShloMosaic.PureOps

@[expose] public section

noncomputable section

namespace Cert.Spec

open Cert Idealize.ShloMosaic

/-- The real numbers the arguments hold: codes of `x`, `dh` and `dy`, the branch output, `mod_scale`, and the token scales
    of `x`, `dy` and `dh`. -/
structure Inputs where
  X : Fin 2 → Fin 1024 → Fin 3072 → ℝ
  H : Fin 2 → Fin 1024 → Fin 3072 → ℝ
  Y : Fin 2 → Fin 1024 → Fin 3072 → ℝ
  O : Fin 2 → Fin 1024 → Fin 3072 → ℝ
  M : Fin 2 → Fin 3072 → ℝ
  A : Fin 2 → Fin 1024 → ℝ
  D : Fin 2 → Fin 1024 → ℝ
  C : Fin 2 → Fin 1024 → ℝ

variable (I : Inputs)

/-- Token `r` of block `t`. -/
def tok (t : Fin 8) (r : Fin 128) : Fin 1024 := ⟨128 * t + r, by omega⟩

/-- The codes of `dh` times `1 + mod`. -/
def Inputs.U (b : Fin 2) (n : Fin 1024) (l : Fin 3072) : ℝ := I.H b n l * (1 + I.M b l)
/-- The gradient of the input, before it is quantised. -/
def Inputs.dx (b : Fin 2) (n : Fin 1024) (l : Fin 3072) : ℝ :=
  Row.dx (I.X b n) (I.U b n) (I.Y b n) (I.A b n) (I.D b n) (I.C b n) l
/-- What the quantiser takes the exponent of. -/
def Inputs.z (b : Fin 2) (n : Fin 1024) : ℝ := Row.amax (I.dx b n) * Quant.itop
/-- Result 4: the token scales of the input's gradient. -/
def Inputs.scale (b : Fin 2) (n : Fin 1024) : ℝ := Quant.qscale (I.z b n)
/-- Result 3: its codes. -/
def Inputs.code (b : Fin 2) (n : Fin 1024) (l : Fin 3072) : ℝ :=
  min Quant.top (max (-Quant.top) (I.dx b n l * Quant.qinv (I.z b n)))
/-- The three summands of a token: shift, scale and gate. -/
def Inputs.term : Fin 3 → Fin 2 → Fin 1024 → Fin 3072 → ℝ
  | 0, b, n, l => I.H b n l * I.C b n
  | 1, b, n, l => I.H b n l * I.C b n * Row.xhat (I.X b n) (I.A b n) l
  | 2, b, n, l => I.Y b n l * I.D b n * I.O b n l
/-- Result 2: their sums over each block of 128 tokens. -/
def Inputs.part (b : Fin 2) (t : Fin 8) (k : Fin 3) (l : Fin 3072) : ℝ := ∑ r : Fin 128, I.term k b (tok t r) l
/-- Result 1: the sums of the blocks. -/
def Inputs.total (b : Fin 2) (k : Fin 3) (l : Fin 3072) : ℝ := ∑ t : Fin 8, I.part b t k l

/-- The four results as arrays of extended reals. -/
def Inputs.out0 (y : (⟨3, ![2, 3, 3072]⟩ : Shape).Idx) : EReal := (I.total (y 0) (y 1) (y 2) : EReal)
def Inputs.out1 (y : (⟨4, ![2, 8, 3, 3072]⟩ : Shape).Idx) : EReal := (I.part (y 0) (y 1) (y 2) (y 3) : EReal)
def Inputs.out2 (y : (⟨3, ![2, 1024, 3072]⟩ : Shape).Idx) : EReal := (I.code (y 0) (y 1) (y 2) : EReal)
def Inputs.out3 (y : (⟨2, ![2, 1024]⟩ : Shape).Idx) : EReal := (I.scale (y 0) (y 1) : EReal)

end Cert.Spec

end
-- ==== Proof.KernelBlocks.lean ====
/- The blocks a grid point reads, as rows of the whole arrays; and what the body computes of them, in the terms of Spec.lean. -/
module

public import proofs.«01_k».proof.Proof.KernelFrame
public import proofs.«01_k».proof.Proof.KernelCode
public import proofs.«01_k».proof.Proof.KernelGrad
public import proofs.«01_k».proof.Proof.Spec

@[expose] public section

noncomputable section

namespace Cert.KernelIdeal.Gen

open Cert Idealize.ShloMosaic Idealize.ShloMosaic.TcCoe Idealize.SL.Sem

variable (m : (ℓ : Loc nD τ sig) → Buf (Elt Ideal) ℓ)

/-- The sample and the block of tokens of grid point `t`. -/
def tb (t : Fin cfg0.N) : Fin 2 := ⟨t.val / 8, by have : t.val < 16 := lt_of_lt_of_eq t.isLt N_0; omega⟩
def tt (t : Fin cfg0.N) : Fin 8 := ⟨t.val % 8, by omega⟩

theorem bOf_coords (t : Fin cfg0.N) : bOf (grid0.coords t) = tb t :=
  Fin.ext ((by decide +kernel : ∀ t : Fin grid0.N, ((grid0.coords t) 0).val = t.val / 8) t)

theorem off1_eq : ∀ t : Fin cfg0.N, k0_off1 (grid0.coords t) 0 = 0 ∧ k0_off1 (grid0.coords t) 1 = 128 * (t.val % 8) :=
  (by decide +kernel : ∀ t : Fin grid0.N, k0_off1 (grid0.coords t) 0 = 0 ∧ k0_off1 (grid0.coords t) 1 = 128 * (t.val % 8))

theorem index0 : ∀ t : Fin cfg0.N, win0_0.index t 0 = t.val / 8 ∧ win0_0.index t 1 = t.val % 8 ∧ win0_0.index t 2 = 0 :=
  (by decide +kernel : ∀ t : Fin grid0.N, win0_0.index t 0 = t.val / 8 ∧ win0_0.index t 1 = t.val % 8 ∧ win0_0.index t 2 = 0)
theorem index2 : ∀ t : Fin cfg0.N, win0_2.index t 0 = t.val / 8 ∧ win0_2.index t 1 = t.val % 8 ∧ win0_2.index t 2 = 0 :=
  (by decide +kernel : ∀ t : Fin grid0.N, win0_2.index t 0 = t.val / 8 ∧ win0_2.index t 1 = t.val % 8 ∧ win0_2.index t 2 = 0)
theorem index3 : ∀ t : Fin cfg0.N, win0_3.index t 0 = t.val / 8 ∧ win0_3.index t 1 = t.val % 8 ∧ win0_3.index t 2 = 0 :=
  (by decide +kernel : ∀ t : Fin grid0.N, win0_3.index t 0 = t.val / 8 ∧ win0_3.index t 1 = t.val % 8 ∧ win0_3.index t 2 = 0)
theorem index5 : ∀ t : Fin cfg0.N, win0_5.index t 0 = t.val / 8 ∧ win0_5.index t 1 = t.val % 8 ∧ win0_5.index t 2 = 0 :=
  (by decide +kernel : ∀ t : Fin grid0.N, win0_5.index t 0 = t.val / 8 ∧ win0_5.index t 1 = t.val % 8 ∧ win0_5.index t 2 = 0)

/-- The arrays the kernel reads hold the reals `I`. -/
structure Holds (I : Spec.Inputs) (c : Dev nD) : Prop where
  hX : ∀ b n l, (V m c main_v0 : Vec Ideal S2x1024x3072 .fp8e4m3) (ix3 b n l) = (I.X b n l : EReal)
  hA : ∀ b n, (V m c main_arg1 : Vec Ideal S2x1024 .f32) (ix2 b n) = (I.A b n : EReal)
  hO : ∀ b n l, (V m c main_arg2 : Vec Ideal S2x1024x3072 .bf16) (ix3 b n l) = (I.O b n l : EReal)
  hY : ∀ b n l, (V m c main_v1 : Vec Ideal S2x1024x3072 .fp8e5m2) (ix3 b n l) = (I.Y b n l : EReal)
  hD : ∀ b n, (V m c main_arg4 : Vec Ideal S2x1024 .f32) (ix2 b n) = (I.D b n : EReal)
  hH : ∀ b n l, (V m c main_v2 : Vec Ideal S2x1024x3072 .fp8e5m2) (ix3 b n l) = (I.H b n l : EReal)
  hC : ∀ b n, (V m c main_arg6 : Vec Ideal S2x1024 .f32) (ix2 b n) = (I.C b n : EReal)
  hM : ∀ b l, (V m c main_arg7 : Vec Ideal S2x3072 .f32) (ix2 b l) = (I.M b l : EReal)

variable (c : Dev nD) (t : Fin cfg0.N)

theorem iblk0_apply (r : Fin 128) (l : Fin 3072) : (iblk m c 0 t : Vec Ideal S1x128x3072 .fp8e4m3) (ix3 0 r l)
    = (V m c main_v0 : Vec Ideal S2x1024x3072 .fp8e4m3) (ix3 (tb t) (Spec.tok (tt t) r) l) := by
  obtain ⟨h0, h1, h2⟩ := index0 t
  unfold iblk
  rw [View.read_apply]
  show V m c main_v0 _ = V m c main_v0 _
  congr 1
  funext a; apply Fin.ext
  match a with
  | ⟨0, _⟩ => show win0_0.index t 0 * 1 + 1 * 0 = t.val / 8; rw [h0]; omega
  | ⟨1, _⟩ => show win0_0.index t 1 * 128 + 1 * r.val = 128 * (t.val % 8) + r.val; rw [h1]; omega
  | ⟨2, _⟩ => show win0_0.index t 2 * 3072 + 1 * l.val = l.val; rw [h2]; omega
theorem iblk2_apply (r : Fin 128) (l : Fin 3072) : (iblk m c 2 t : Vec Ideal S1x128x3072 .bf16) (ix3 0 r l)
    = (V m c main_arg2 : Vec Ideal S2x1024x3072 .bf16) (ix3 (tb t) (Spec.tok (tt t) r) l) := by
  obtain ⟨h0, h1, h2⟩ := index2 t
  unfold iblk
  rw [View.read_apply]
  show V m c main_arg2 _ = V m c main_arg2 _
  congr 1
  funext a; apply Fin.ext
  match a with
  | ⟨0, _⟩ => show win0_2.index t 0 * 1 + 1 * 0 = t.val / 8; rw [h0]; omega
  | ⟨1, _⟩ => show win0_2.index t 1 * 128 + 1 * r.val = 128 * (t.val % 8) + r.val; rw [h1]; omega
  | ⟨2, _⟩ => show win0_2.index t 2 * 3072 + 1 * l.val = l.val; rw [h2]; omega
theorem iblk3_apply (r : Fin 128) (l : Fin 3072) : (iblk m c 3 t : Vec Ideal S1x128x3072 .fp8e5m2) (ix3 0 r l)
    = (V m c main_v1 : Vec Ideal S2x1024x3072 .fp8e5m2) (ix3 (tb t) (Spec.tok (tt t) r) l) := by
  obtain ⟨h0, h1, h2⟩ := index3 t
  unfold iblk
  rw [View.read_apply]
  show V m c main_v1 _ = V m c main_v1 _
  congr 1
  funext a; apply Fin.ext
  match a with
  | ⟨0, _⟩ => show win0_3.index t 0 * 1 + 1 * 0 = t.val / 8; rw [h0]; omega
  | ⟨1, _⟩ => show win0_3.index t 1 * 128 + 1 * r.val = 128 * (t.val % 8) + r.val; rw [h1]; omega
  | ⟨2, _⟩ => show win0_3.index t 2 * 3072 + 1 * l.val = l.val; rw [h2]; omega
theorem iblk5_apply (r : Fin 128) (l : Fin 3072) : (iblk m c 5 t : Vec Ideal S1x128x3072 .fp8e5m2) (ix3 0 r l)
    = (V m c main_v2 : Vec Ideal S2x1024x3072 .fp8e5m2) (ix3 (tb t) (Spec.tok (tt t) r) l) := by
  obtain ⟨h0, h1, h2⟩ := index5 t
  unfold iblk
  rw [View.read_apply]
  show V m c main_v2 _ = V m c main_v2 _
  congr 1
  funext a; apply Fin.ext
  match a with
  | ⟨0, _⟩ => show win0_5.index t 0 * 1 + 1 * 0 = t.val / 8; rw [h0]; omega
  | ⟨1, _⟩ => show win0_5.index t 1 * 128 + 1 * r.val = 128 * (t.val % 8) + r.val; rw [h1]; omega
  | ⟨2, _⟩ => show win0_5.index t 2 * 3072 + 1 * l.val = l.val; rw [h2]; omega

theorem iblk1_apply (j : S2x1024.Idx) : (iblk m c 1 t : Vec Ideal S2x1024 .f32) j = (V m c main_arg1 : Vec Ideal S2x1024 .f32) j := by
  unfold iblk
  rw [View.read_apply]
  show V m c main_arg1 _ = V m c main_arg1 _
  congr 1
  funext a; apply Fin.ext
  match a with
  | ⟨0, _⟩ => show 0 * 2 + 1 * (j 0).val = (j 0).val; omega
  | ⟨1, _⟩ => show 0 * 1024 + 1 * (j 1).val = (j 1).val; omega
theorem iblk4_apply (j : S2x1024.Idx) : (iblk m c 4 t : Vec Ideal S2x1024 .f32) j = (V m c main_arg4 : Vec Ideal S2x1024 .f32) j := by
  unfold iblk
  rw [View.read_apply]
  show V m c main_arg4 _ = V m c main_arg4 _
  congr 1
  funext a; apply Fin.ext
  match a with
  | ⟨0, _⟩ => show 0 * 2 + 1 * (j 0).val = (j 0).val; omega
  | ⟨1, _⟩ => show 0 * 1024 + 1 * (j 1).val = (j 1).val; omega
theorem iblk6_apply (j : S2x1024.Idx) : (iblk m c 6 t : Vec Ideal S2x1024 .f32) j = (V m c main_arg6 : Vec Ideal S2x1024 .f32) j := by
  unfold iblk
  rw [View.read_apply]
  show V m c main_arg6 _ = V m c main_arg6 _
  congr 1
  funext a; apply Fin.ext
  match a with
  | ⟨0, _⟩ => show 0 * 2 + 1 * (j 0).val = (j 0).val; omega
  | ⟨1, _⟩ => show 0 * 1024 + 1 * (j 1).val = (j 1).val; omega
theorem iblk7_apply (j : S2x3072.Idx) : (iblk m c 7 t : Vec Ideal S2x3072 .f32) j = (V m c main_arg7 : Vec Ideal S2x3072 .f32) j := by
  unfold iblk
  rw [View.read_apply]
  show V m c main_arg7 _ = V m c main_arg7 _
  congr 1
  funext a; apply Fin.ext
  match a with
  | ⟨0, _⟩ => show 0 * 2 + 1 * (j 0).val = (j 0).val; omega
  | ⟨1, _⟩ => show 0 * 3072 + 1 * (j 1).val = (j 1).val; omega

theorem rT_idx (b : Fin 2) (r : Fin 128) : (rT (grid0.coords t)).toLoadRect.idx (ix2 b r) = (ix2 b (Spec.tok (tt t) r) : S2x1024.Idx) := by
  obtain ⟨h0, h1⟩ := off1_eq t
  funext a; apply Fin.ext
  match a with
  | ⟨0, _⟩ => show k0_off1 (grid0.coords t) 0 + 1 * b.val = b.val; rw [h0]; omega
  | ⟨1, _⟩ => show k0_off1 (grid0.coords t) 1 + 1 * r.val = 128 * (t.val % 8) + r.val; rw [h1]; omega

/-- The reals of the blocks at point `t`. -/
def realsOf {I : Spec.Inputs} {c : Dev nD} (h : Holds m I c) (t : Fin cfg0.N) (y8 : Vec Ideal S1x3x3072 .f32) (y11 : Vec Ideal S2x1024 .f32)
    (s : Vec Ideal S128x128 .f32) : Reals (bodyOf m c t y8 y11 s) where
  X r l := I.X (tb t) (Spec.tok (tt t) r) l
  H r l := I.H (tb t) (Spec.tok (tt t) r) l
  Y r l := I.Y (tb t) (Spec.tok (tt t) r) l
  O r l := I.O (tb t) (Spec.tok (tt t) r) l
  M l := I.M (tb t) l
  A r := I.A (tb t) (Spec.tok (tt t) r)
  D r := I.D (tb t) (Spec.tok (tt t) r)
  C r := I.C (tb t) (Spec.tok (tt t) r)
  hX r l := (iblk0_apply m c t r l).trans (h.hX _ _ _)
  hO r l := (iblk2_apply m c t r l).trans (h.hO _ _ _)
  hY r l := (iblk3_apply m c t r l).trans (h.hY _ _ _)
  hH r l := (iblk5_apply m c t r l).trans (h.hH _ _ _)
  hM l := (iblk7_apply m c t _).trans ((h.hM _ _).trans (by rw [bOf_coords t]))
  hA r := (iblk1_apply m c t _).trans ((congrArg (V m c main_arg1 : Vec Ideal S2x1024 .f32) (rT_idx t _ r)).trans ((h.hA _ _).trans (by rw [bOf_coords t])))
  hD r := (iblk4_apply m c t _).trans ((congrArg (V m c main_arg4 : Vec Ideal S2x1024 .f32) (rT_idx t _ r)).trans ((h.hD _ _).trans (by rw [bOf_coords t])))
  hC r := (iblk6_apply m c t _).trans ((congrArg (V m c main_arg6 : Vec Ideal S2x1024 .f32) (rT_idx t _ r)).trans ((h.hC _ _).trans (by rw [bOf_coords t])))

section
variable {m} {I : Spec.Inputs} {c : Dev nD} (h : Holds m I c) (y8 : Vec Ideal S1x3x3072 .f32) (y11 : Vec Ideal S2x1024 .f32) (s : Vec Ideal S128x128 .f32)

/-- The body's three sums over its block are the reference's. -/
theorem grad_eq (k : Fin 3) (l : Fin 3072) : (realsOf m h t y8 y11 s).grad k l = I.part (tb t) (tt t) k l := by
  unfold Spec.Inputs.part
  fin_cases k
  · exact Finset.sum_congr rfl fun r _ => mul_comm _ _
  · refine Finset.sum_add_distrib.symm.trans (Finset.sum_congr rfl fun r _ => ?_)
    show (0 - Row.craK _ _ _) * Row.mxK _ * _ + Row.craK _ _ _ * (_ * _) = _ * _ * Row.xhat _ _ l
    rw [Row.xhat_eq]
    unfold Row.craK
    simp only [realsOf]
    ring
  · rfl
theorem dxK_eq (r : Fin 128) (l : Fin 3072) : (realsOf m h t y8 y11 s).dx r l = I.dx (tb t) (Spec.tok (tt t) r) l :=
  (Row.dx_eq _ _ _ _ _ _ l).symm
theorem zK_eq (r : Fin 128) : (realsOf m h t y8 y11 s).z r = I.z (tb t) (Spec.tok (tt t) r) := by
  unfold Reals.z Spec.Inputs.z
  rw [show (realsOf m h t y8 y11 s).dx r = I.dx (tb t) (Spec.tok (tt t) r) from funext fun l => dxK_eq t h y8 y11 s r l]
theorem codeK_eq (r : Fin 128) (l : Fin 3072) : (realsOf m h t y8 y11 s).code r l = I.code (tb t) (Spec.tok (tt t) r) l := by
  unfold Reals.code Spec.Inputs.code
  rw [dxK_eq, zK_eq]; rfl
end

end Cert.KernelIdeal.Gen

end
-- ==== Proof.KernelMatch.lean ====
/- The run's stores are the chunk-by-chunk ones. -/
module

public import proofs.«01_k».proof.Proof.KernelWords

@[expose] public section

set_option maxRecDepth 100000
set_option maxHeartbeats 0

noncomputable section

namespace Cert.KernelIdeal.Gen

open Idealize.ShloMosaic Idealize.ShloMosaic.TcCoe Idealize.SL.Sem

variable {F : FTy → Type} [FloatOps F] [Named F]
variable (B : Body F)

theorem match_mod : kernelRun.sl.HS0_1 B.c B.i B.arg9 B.harg9 B.x7 = pMod B := rfl
theorem match_H : kernelRun.sl.HS4_96 B.c B.arg7 B.harg7 B.x5 = pH B 96 := rfl
theorem match_P : kernelRun.sl.HS3_96 B.c B.arg2 B.harg2 B.arg7 B.harg7 B.x0 B.x5 = pP B 96 := rfl
theorem match_U : kernelRun.sl.HS1_96 B.c B.i B.arg7 B.harg7 B.arg9 B.harg9 B.arg14 B.x5 B.x7 = pU B 96 := rfl
theorem match_W : kernelRun.sl.HS6_12 B.c B.i B.arg2 B.harg2 B.arg3 B.harg3 B.arg8 B.harg8 B.x0 B.x1 B.x6 = pW B 4 := rfl

/-- A list of the first `n` additions into the gate sums. -/
inductive IsG : ℕ → List (View.Piece (Elt F) S8x3072 .f32) → Prop
  | zero : IsG 0 (pG B 0)
  | step (n : ℕ) (l : List (View.Piece (Elt F) S8x3072 .f32)) (h : IsG n l) :
      IsG (n + 1) (⟨rG n, shapeCast S8x128 (addf (B.arg19.view.readCov l (rG n).toLoadRect) (fold8 (wGate B (n / 24) n))) shapeCasts_S8x128_S8x128⟩ :: l)
theorem IsG.eq {n : ℕ} {l : List (View.Piece (Elt F) S8x3072 .f32)} (h : IsG B n l) : l = pG B n := by
  induction h with
  | zero => rfl
  | step n l h ih => rw [ih]; rfl
theorem match_G : kernelRun.sl.HS5_97 B.c B.i B.arg4 B.harg4 B.arg5 B.harg5 B.arg6 B.harg6 B.arg19 B.x2 B.x3 B.x4 = pG B 96 := IsG.eq B (by repeat first | apply IsG.step | exact IsG.zero)

theorem match_D0 : kernelRun.sl.HS2_24 B.c B.i B.arg2 B.harg2 B.arg3 B.harg3 B.arg5 B.harg5 B.arg6 B.harg6 B.arg7 B.harg7 B.arg8 B.harg8 B.arg9 B.harg9 B.arg14 B.arg15 B.x0 B.x1 B.x3 B.x4 B.x5 B.x6 B.x7 = pD B 24 := rfl
theorem match_D1 : kernelRun.sl.HS2_48 B.c B.i B.arg2 B.harg2 B.arg3 B.harg3 B.arg5 B.harg5 B.arg6 B.harg6 B.arg7 B.harg7 B.arg8 B.harg8 B.arg9 B.harg9 B.arg14 B.arg15 B.x0 B.x1 B.x3 B.x4 B.x5 B.x6 B.x7 = pD B 48 := rfl
theorem match_D2 : kernelRun.sl.HS2_72 B.c B.i B.arg2 B.harg2 B.arg3 B.harg3 B.arg5 B.harg5 B.arg6 B.harg6 B.arg7 B.harg7 B.arg8 B.harg8 B.arg9 B.harg9 B.arg14 B.arg15 B.x0 B.x1 B.x3 B.x4 B.x5 B.x6 B.x7 = pD B 72 := rfl
theorem match_D3 : kernelRun.sl.HS2_96 B.c B.i B.arg2 B.harg2 B.arg3 B.harg3 B.arg5 B.harg5 B.arg6 B.harg6 B.arg7 B.harg7 B.arg8 B.harg8 B.arg9 B.harg9 B.arg14 B.arg15 B.x0 B.x1 B.x3 B.x4 B.x5 B.x6 B.x7 = pD B 96 := rfl

theorem match_bits0 : kernelRun.sl.v1827 B.c B.i B.arg2 B.harg2 B.arg3 B.harg3 B.arg5 B.harg5 B.arg6 B.harg6 B.arg7 B.harg7 B.arg8 B.harg8 B.arg9 B.harg9 B.arg14 B.arg15 B.x0 B.x1 B.x3 B.x4 B.x5 B.x6 B.x7 = scaleBits (wZ B 0) := rfl
theorem match_bits1 : kernelRun.sl.v3877 B.c B.i B.arg2 B.harg2 B.arg3 B.harg3 B.arg5 B.harg5 B.arg6 B.harg6 B.arg7 B.harg7 B.arg8 B.harg8 B.arg9 B.harg9 B.arg14 B.arg15 B.x0 B.x1 B.x3 B.x4 B.x5 B.x6 B.x7 = scaleBits (wZ B 1) := rfl
theorem match_bits2 : kernelRun.sl.v5927 B.c B.i B.arg2 B.harg2 B.arg3 B.harg3 B.arg5 B.harg5 B.arg6 B.harg6 B.arg7 B.harg7 B.arg8 B.harg8 B.arg9 B.harg9 B.arg14 B.arg15 B.x0 B.x1 B.x3 B.x4 B.x5 B.x6 B.x7 = scaleBits (wZ B 2) := rfl
theorem match_scale0 : kernelRun.sl.v1828 B.c B.i B.arg2 B.harg2 B.arg3 B.harg3 B.arg5 B.harg5 B.arg6 B.harg6 B.arg7 B.harg7 B.arg8 B.harg8 B.arg9 B.harg9 B.arg14 B.arg15 B.x0 B.x1 B.x3 B.x4 B.x5 B.x6 B.x7 = wScale B 0 := congrArg (bitcastToFloat .f32) (match_bits0 B)
theorem match_scale1 : kernelRun.sl.v3878 B.c B.i B.arg2 B.harg2 B.arg3 B.harg3 B.arg5 B.harg5 B.arg6 B.harg6 B.arg7 B.harg7 B.arg8 B.harg8 B.arg9 B.harg9 B.arg14 B.arg15 B.x0 B.x1 B.x3 B.x4 B.x5 B.x6 B.x7 = wScale B 1 := congrArg (bitcastToFloat .f32) (match_bits1 B)
theorem match_scale2 : kernelRun.sl.v5928 B.c B.i B.arg2 B.harg2 B.arg3 B.harg3 B.arg5 B.harg5 B.arg6 B.harg6 B.arg7 B.harg7 B.arg8 B.harg8 B.arg9 B.harg9 B.arg14 B.arg15 B.x0 B.x1 B.x3 B.x4 B.x5 B.x6 B.x7 = wScale B 2 := congrArg (bitcastToFloat .f32) (match_bits2 B)
theorem match_scale3 : kernelRun.sl.r_135 B.c B.i B.arg2 B.harg2 B.arg3 B.harg3 B.arg5 B.harg5 B.arg6 B.harg6 B.arg7 B.harg7 B.arg8 B.harg8 B.arg9 B.harg9 B.arg14 B.arg15 B.x0 B.x1 B.x3 B.x4 B.x5 B.x6 B.x7 = wScale B 3 := rfl
theorem match_inv0 : bitcastToFloat .f32 (kernelRun.sl.v1830 B.c B.i B.arg2 B.harg2 B.arg3 B.harg3 B.arg5 B.harg5 B.arg6 B.harg6 B.arg7 B.harg7 B.arg8 B.harg8 B.arg9 B.harg9 B.arg14 B.arg15 B.x0 B.x1 B.x3 B.x4 B.x5 B.x6 B.x7) = wInv B 0 :=
  congrArg (fun b => bitcastToFloat .f32 (subi (broadcast S32x1 0x7F000000#32) b)) (match_bits0 B)
theorem match_inv1 : kernelRun.sl.v3881 B.c B.i B.arg2 B.harg2 B.arg3 B.harg3 B.arg5 B.harg5 B.arg6 B.harg6 B.arg7 B.harg7 B.arg8 B.harg8 B.arg9 B.harg9 B.arg14 B.arg15 B.x0 B.x1 B.x3 B.x4 B.x5 B.x6 B.x7 = wInv B 1 :=
  congrArg (fun b => bitcastToFloat .f32 (subi (broadcast S32x1 0x7F000000#32) b)) (match_bits1 B)
theorem match_inv2 : kernelRun.sl.v5931 B.c B.i B.arg2 B.harg2 B.arg3 B.harg3 B.arg5 B.harg5 B.arg6 B.harg6 B.arg7 B.harg7 B.arg8 B.harg8 B.arg9 B.harg9 B.arg14 B.arg15 B.x0 B.x1 B.x3 B.x4 B.x5 B.x6 B.x7 = wInv B 2 :=
  congrArg (fun b => bitcastToFloat .f32 (subi (broadcast S32x1 0x7F000000#32) b)) (match_bits2 B)
theorem match_inv3 : kernelRun.sl.r_136 B.c B.i B.arg2 B.harg2 B.arg3 B.harg3 B.arg5 B.harg5 B.arg6 B.harg6 B.arg7 B.harg7 B.arg8 B.harg8 B.arg9 B.harg9 B.arg14 B.arg15 B.x0 B.x1 B.x3 B.x4 B.x5 B.x6 B.x7 = wInv B 3 := rfl
theorem match_scaleRow : k0_pay1803 (kernelRun.sl.v1828 B.c B.i B.arg2 B.harg2 B.arg3 B.harg3 B.arg5 B.harg5 B.arg6 B.harg6 B.arg7 B.harg7 B.arg8 B.harg8 B.arg9 B.harg9 B.arg14 B.arg15 B.x0 B.x1 B.x3 B.x4 B.x5 B.x6 B.x7) (kernelRun.sl.v3878 B.c B.i B.arg2 B.harg2 B.arg3 B.harg3 B.arg5 B.harg5 B.arg6 B.harg6 B.arg7 B.harg7 B.arg8 B.harg8 B.arg9 B.harg9 B.arg14 B.arg15 B.x0 B.x1 B.x3 B.x4 B.x5 B.x6 B.x7) (kernelRun.sl.v5928 B.c B.i B.arg2 B.harg2 B.arg3 B.harg3 B.arg5 B.harg5 B.arg6 B.harg6 B.arg7 B.harg7 B.arg8 B.harg8 B.arg9 B.harg9 B.arg14 B.arg15 B.x0 B.x1 B.x3 B.x4 B.x5 B.x6 B.x7) (kernelRun.sl.r_135 B.c B.i B.arg2 B.harg2 B.arg3 B.harg3 B.arg5 B.harg5 B.arg6 B.harg6 B.arg7 B.harg7 B.arg8 B.harg8 B.arg9 B.harg9 B.arg14 B.arg15 B.x0 B.x1 B.x3 B.x4 B.x5 B.x6 B.x7) = wScaleRow B := by
  rw [match_scale0, match_scale1, match_scale2, match_scale3]; rfl

theorem match_K_of : kernelRun.sl.H10_96 B.c B.i B.arg2 B.harg2 B.arg3 B.harg3 B.arg5 B.harg5 B.arg6 B.harg6 B.arg7 B.harg7 B.arg8 B.harg8 B.arg9 B.harg9 B.arg14 B.arg15 B.arg16 B.x0 B.x1 B.x3 B.x4 B.x5 B.x6 B.x7 = pKof B (sel4 (kernelRun.sl.HS2_24 B.c B.i B.arg2 B.harg2 B.arg3 B.harg3 B.arg5 B.harg5 B.arg6 B.harg6 B.arg7 B.harg7 B.arg8 B.harg8 B.arg9 B.harg9 B.arg14 B.arg15 B.x0 B.x1 B.x3 B.x4 B.x5 B.x6 B.x7) (kernelRun.sl.HS2_48 B.c B.i B.arg2 B.harg2 B.arg3 B.harg3 B.arg5 B.harg5 B.arg6 B.harg6 B.arg7 B.harg7 B.arg8 B.harg8 B.arg9 B.harg9 B.arg14 B.arg15 B.x0 B.x1 B.x3 B.x4 B.x5 B.x6 B.x7) (kernelRun.sl.HS2_72 B.c B.i B.arg2 B.harg2 B.arg3 B.harg3 B.arg5 B.harg5 B.arg6 B.harg6 B.arg7 B.harg7 B.arg8 B.harg8 B.arg9 B.harg9 B.arg14 B.arg15 B.x0 B.x1 B.x3 B.x4 B.x5 B.x6 B.x7) (kernelRun.sl.HS2_96 B.c B.i B.arg2 B.harg2 B.arg3 B.harg3 B.arg5 B.harg5 B.arg6 B.harg6 B.arg7 B.harg7 B.arg8 B.harg8 B.arg9 B.harg9 B.arg14 B.arg15 B.x0 B.x1 B.x3 B.x4 B.x5 B.x6 B.x7)) (sel4 (bitcastToFloat .f32 (kernelRun.sl.v1830 B.c B.i B.arg2 B.harg2 B.arg3 B.harg3 B.arg5 B.harg5 B.arg6 B.harg6 B.arg7 B.harg7 B.arg8 B.harg8 B.arg9 B.harg9 B.arg14 B.arg15 B.x0 B.x1 B.x3 B.x4 B.x5 B.x6 B.x7)) (kernelRun.sl.v3881 B.c B.i B.arg2 B.harg2 B.arg3 B.harg3 B.arg5 B.harg5 B.arg6 B.harg6 B.arg7 B.harg7 B.arg8 B.harg8 B.arg9 B.harg9 B.arg14 B.arg15 B.x0 B.x1 B.x3 B.x4 B.x5 B.x6 B.x7) (kernelRun.sl.v5931 B.c B.i B.arg2 B.harg2 B.arg3 B.harg3 B.arg5 B.harg5 B.arg6 B.harg6 B.arg7 B.harg7 B.arg8 B.harg8 B.arg9 B.harg9 B.arg14 B.arg15 B.x0 B.x1 B.x3 B.x4 B.x5 B.x6 B.x7) (kernelRun.sl.r_136 B.c B.i B.arg2 B.harg2 B.arg3 B.harg3 B.arg5 B.harg5 B.arg6 B.harg6 B.arg7 B.harg7 B.arg8 B.harg8 B.arg9 B.harg9 B.arg14 B.arg15 B.x0 B.x1 B.x3 B.x4 B.x5 B.x6 B.x7)) 96 := rfl
theorem match_K : kernelRun.sl.H10_96 B.c B.i B.arg2 B.harg2 B.arg3 B.harg3 B.arg5 B.harg5 B.arg6 B.harg6 B.arg7 B.harg7 B.arg8 B.harg8 B.arg9 B.harg9 B.arg14 B.arg15 B.arg16 B.x0 B.x1 B.x3 B.x4 B.x5 B.x6 B.x7 = pK B 96 := by
  rw [match_K_of, match_D0, match_D1, match_D2, match_D3, match_inv0, match_inv1, match_inv2, match_inv3]
  have h : ∀ n ≤ 96, pKof B (sel4 (pD B 24) (pD B 48) (pD B 72) (pD B 96)) (sel4 (wInv B 0) (wInv B 1) (wInv B 2) (wInv B 3)) n = pK B n := by
    intro n hn
    induction n with
    | zero => rfl
    | succ n ih =>
      have hq : n / 24 < 4 := by omega
      unfold pKof pK
      rw [ih (by omega)]
      unfold wCode
      generalize n / 24 = q at hq
      interval_cases q <;> rfl
  exact h 96 (by omega)

theorem match_h : kernelRun.sl.v8286 B.c B.arg7 B.harg7 B.arg18 B.x5 = wHfull B := congrArg (fun l => B.arg18.view.readCov l (Rect.unit (s := S128x3072) ![0, 0] S128x3072.size inb_S128x3072_S128x3072_0_0).toLoadRect) (match_H B)
theorem match_p : kernelRun.sl.v8288 B.c B.arg2 B.harg2 B.arg7 B.harg7 B.arg17 B.x0 B.x5 = wPfull B := congrArg (fun l => B.arg17.view.readCov l (Rect.unit (s := S128x3072) ![0, 0] S128x3072.size inb_S128x3072_S128x3072_0_0).toLoadRect) (match_P B)
theorem match_g : kernelRun.sl.v8301 B.c B.i B.arg4 B.harg4 B.arg5 B.harg5 B.arg6 B.harg6 B.arg19 B.x2 B.x3 B.x4 = wGfull B := congrArg (fun l => B.arg19.view.readCov l (Rect.unit (s := S8x3072) ![0, 0] S8x3072.size inb_S8x3072_S8x3072_0_0).toLoadRect) (match_G B)
theorem match_w : kernelRun.sl.v8257 B.c B.i B.arg2 B.harg2 B.arg3 B.harg3 B.arg8 B.harg8 B.arg20 B.harg20 B.x0 B.x1 B.x6 B.xs6 = wW B := congrArg (fun l => View.readAt (Elt F) B.arg20.view (Rect.unit (s := S128x128) ![0, 0] S128x128.size inb_S128x128_S128x128_0_0).toLoadRect (B.arg20.view.writes (Elt F) (B.harg20.unread B.xs6) l)) (match_W B)
theorem match_grad_of : kernelRun.sl.r_150 B.c B.i B.arg2 B.harg2 B.arg3 B.harg3 B.arg4 B.harg4 B.arg5 B.harg5 B.arg6 B.harg6 B.arg7 B.harg7 B.arg8 B.harg8 B.arg17 B.arg18 B.arg19 B.arg20 B.harg20 B.x0 B.x1 B.x2 B.x3 B.x4 B.x5 B.x6 B.xs6 = gradRows (kernelRun.sl.v8257 B.c B.i B.arg2 B.harg2 B.arg3 B.harg3 B.arg8 B.harg8 B.arg20 B.harg20 B.x0 B.x1 B.x6 B.xs6) (kernelRun.sl.v8286 B.c B.arg7 B.harg7 B.arg18 B.x5) (kernelRun.sl.v8288 B.c B.arg2 B.harg2 B.arg7 B.harg7 B.arg17 B.x0 B.x5) (kernelRun.sl.v8301 B.c B.i B.arg4 B.harg4 B.arg5 B.harg5 B.arg6 B.harg6 B.arg19 B.x2 B.x3 B.x4) := rfl
theorem match_grad : kernelRun.sl.r_150 B.c B.i B.arg2 B.harg2 B.arg3 B.harg3 B.arg4 B.harg4 B.arg5 B.harg5 B.arg6 B.harg6 B.arg7 B.harg7 B.arg8 B.harg8 B.arg17 B.arg18 B.arg19 B.arg20 B.harg20 B.x0 B.x1 B.x2 B.x3 B.x4 B.x5 B.x6 B.xs6 = wGrad B := by rw [match_grad_of, match_h, match_p, match_g, match_w]; rfl

/-! ## What the run leaves -/

/-- At a sample's first block the accumulator is stored whole. -/
theorem run_C8_first (h3 : k0_cond3 B.i = 1#1) (h4 : ¬ k0_cond4 B.i = 1#1) :
    B.run.1 = B.arg10.view.writes (Elt F) (B.harg10.unread B.x8)
      [⟨Rect.unit (s := S1x3x3072) ![0, 0, 0] S1x3x3072.size inb_S1x3x3072_S1x3x3072_0_0_0, shapeCast S1x3x3072 (wGrad B) shapeCasts_S3x3072_S1x3x3072⟩] := by
  rw [← match_grad B]
  exact (dif_neg h4).trans (dif_pos h3)
/-- At a later block the block's rows are added to it. -/
theorem run_C8_next (h3 : ¬ k0_cond3 B.i = 1#1) (h4 : k0_cond4 B.i = 1#1) :
    B.run.1 = B.arg10.view.writes (Elt F) (B.harg10.unread B.x8)
      [⟨Rect.unit (s := S1x3x3072) ![0, 0, 0] S1x3x3072.size inb_S1x3x3072_S1x3x3072_0_0_0,
        k0_pay1 (wGrad B) (View.readAt (Elt F) B.arg10.view (Rect.unit (s := S1x3x3072) ![0, 0, 0] S1x3x3072.size inb_S1x3x3072_S1x3x3072_0_0_0).toLoadRect (B.harg10.unread B.x8))⟩] := by
  have hv : kernelRun.sl.v8314 B.c B.i B.arg2 B.harg2 B.arg3 B.harg3 B.arg4 B.harg4 B.arg5 B.harg5 B.arg6 B.harg6 B.arg7 B.harg7 B.arg8 B.harg8 B.arg10 B.harg10 B.arg17 B.arg18 B.arg19 B.arg20 B.harg20 B.x0 B.x1 B.x2 B.x3 B.x4 B.x5 B.x6 B.x8 B.xs6 = View.readAt (Elt F) B.arg10.view (Rect.unit (s := S1x3x3072) ![0, 0, 0] S1x3x3072.size inb_S1x3x3072_S1x3x3072_0_0_0).toLoadRect (B.harg10.unread B.x8) :=
    congrArg (View.readAt (Elt F) B.arg10.view (Rect.unit (s := S1x3x3072) ![0, 0, 0] S1x3x3072.size inb_S1x3x3072_S1x3x3072_0_0_0).toLoadRect) (dif_neg h3)
  rw [← match_grad B, ← hv]
  refine (dif_pos h4).trans ?_
  rw [dif_neg h3]
/-- The block's own rows. -/
theorem run_L9 : B.run.2.1 = [⟨Rect.unit (s := S1x1x3x3072) ![0, 0, 0, 0] S1x1x3x3072.size inb_S1x1x3x3072_S1x1x3x3072_0_0_0_0, shapeCast S1x1x3x3072 (wGrad B) shapeCasts_S3x3072_S1x1x3x3072⟩] := by
  rw [← match_grad B]; rfl
theorem run_L10 : B.run.2.2.1 = pK B 96 := by
  rw [← match_K B]; rfl
/-- The block's scales, in the sample's row. -/
theorem run_C11_first (h1 : k0_cond1 B.i = 1#1) (h2 : ¬ k0_cond2 B.i = 1#1) :
    ∃ h, B.run.2.2.2.1 = B.arg13.view.writes (Elt F) (B.harg13.unread B.x11) [⟨Rect.unit (s := S2x1024) (k0_off2 B.i) S1x128.size h, wScaleRow B⟩] := by
  rw [← match_scaleRow B]
  exact ⟨_, (dif_neg h2).trans (dif_pos h1)⟩
theorem run_C11_second (h1 : ¬ k0_cond1 B.i = 1#1) (h2 : k0_cond2 B.i = 1#1) :
    ∃ h, B.run.2.2.2.1 = B.arg13.view.writes (Elt F) (B.harg13.unread B.x11) [⟨Rect.unit (s := S2x1024) (k0_off3 B.i) S1x128.size h, wScaleRow B⟩] := by
  rw [← match_scaleRow B]
  refine ⟨k0_off3_inb B.i h2, ?_⟩
  refine (dif_pos h2).trans ?_
  rw [dif_neg h1]

end Cert.KernelIdeal.Gen

end
-- ==== Proof.KernelLeft.lean ====
/- What the body leaves in the four result blocks, over the extended reals. -/
module

public import proofs.«01_k».proof.Proof.KernelMatch
public import proofs.«01_k».proof.Proof.KernelCode
public import proofs.«01_k».proof.Proof.KernelGrad
public import Idealize.ShloMosaic.Lib.VecWindow
public import Idealize.ShloMosaic.Lib.Writes

@[expose] public section

noncomputable section

namespace Cert.KernelIdeal.Gen

open Cert Idealize.ShloMosaic Idealize.ShloMosaic.TcCoe Idealize.SL.Sem

variable {B : Body Ideal} (R : Reals B)

theorem raise3_apply (w : FVec Ideal S3x3072 .f32) (k : Fin 3) (l : Fin 3072) :
    shapeCast S1x3x3072 w shapeCasts_S3x3072_S1x3x3072 (ix3 0 k l) = w (ix2 k l) := by pointwise
theorem raise4_apply (w : FVec Ideal S3x3072 .f32) (k : Fin 3) (l : Fin 3072) :
    shapeCast S1x1x3x3072 w shapeCasts_S3x3072_S1x1x3x3072 (ix4 0 0 k l) = w (ix2 k l) := by pointwise
theorem pay1_apply (w : FVec Ideal S3x3072 .f32) (y : FVec Ideal S1x3x3072 .f32) (k : Fin 3) (l : Fin 3072) :
    k0_pay1 w y (ix3 0 k l) = (y (ix3 0 k l) + w (ix2 k l) : EReal) := by pointwise [k0_pay1]

include R

/-- The running sums at the first block of a sample: the block's own. -/
theorem left8_first (h3 : k0_cond3 B.i = 1#1) (h4 : ¬ k0_cond4 B.i = 1#1) (k : Fin 3) (l : Fin 3072) :
    B.arg10.view.read (Elt Ideal) B.run.1 (ix3 0 k l) = (R.grad k l : EReal) := by
  rw [run_C8_first B h3 h4, View.read_writes_full (Val := Elt Ideal)]
  exact (raise3_apply _ k l).trans (wGrad_apply R k l)

/-- At a later one: those before, and the block's own. -/
theorem left8_next (h3 : ¬ k0_cond3 B.i = 1#1) (h4 : k0_cond4 B.i = 1#1) (k : Fin 3) (l : Fin 3072) :
    B.arg10.view.read (Elt Ideal) B.run.1 (ix3 0 k l) = (B.x8 (ix3 0 k l) + (R.grad k l : EReal) : EReal) := by
  have hz : (![0, 0, 0] : Fin 3 → Nat) = fun _ => 0 := funext fun a => by fin_cases a <;> rfl
  rw [run_C8_next B h3 h4, View.read_writes_full (Val := Elt Ideal), View.readAt_eq_ld, B.harg10.read_unread, View.ld_unit_zero (S := S1x3x3072) hz]
  exact (pay1_apply _ _ k l).trans (by rw [wGrad_apply R])

/-- The block's sums. -/
theorem left9 (f : B.arg11.view.ty.Contents (Elt Ideal)) (k : Fin 3) (l : Fin 3072) :
    B.arg11.view.read (Elt Ideal) (B.arg11.view.writes (Elt Ideal) f B.run.2.1) (ix4 0 0 k l) = (R.grad k l : EReal) := by
  rw [run_L9, View.read_writes_full (Val := Elt Ideal)]
  exact (raise4_apply _ k l).trans (wGrad_apply R k l)

/-- The block's codes. -/
theorem left10 (f : B.arg12.view.ty.Contents (Elt Ideal)) (r : Fin 128) (l : Fin 3072) :
    B.arg12.view.read (Elt Ideal) (B.arg12.view.writes (Elt Ideal) f B.run.2.2.1) (ix3 0 r l) = (R.code r l : EReal) := by
  rw [run_L10, View.read_writes_apply_eq_canon (Val := Elt Ideal) _ _ _ _ (pK_canon r l)]
  exact View.canon_apply_of_pieces (Val := Elt Ideal) (e := .fp8e5m2) (fun y : S1x128x3072.Idx => (R.code (y 1) (y 2) : EReal)) (pK B 96) (pK_pieces R 96) _ (pK_canon r l)

/-- The table of scales, for the first sample: the block's scales in its places of row 0, what was there elsewhere. -/
theorem left11_first (h1 : k0_cond1 B.i = 1#1) (h2 : ¬ k0_cond2 B.i = 1#1) (o : ℕ) (h0 : k0_off2 B.i 0 = 0) (ho : k0_off2 B.i 1 = o)
    (b : Fin 2) (n : Fin 1024) :
    B.arg13.view.read (Elt Ideal) B.run.2.2.2.1 (ix2 b n)
      = if h : b.val = 0 ∧ o ≤ n.val ∧ n.val < o + 128 then (Quant.qscale (R.z ⟨n - o, by omega⟩) : EReal) else B.x11 (ix2 b n) := by
  obtain ⟨hb, e⟩ := run_C11_first (B := B) h1 h2
  rw [e]
  by_cases h : b.val = 0 ∧ o ≤ n.val ∧ n.val < o + 128
  · rw [dif_pos h, View.read_writes_cons_hit_of_coords (Val := Elt Ideal) _ _ _ _ _ (ix2 0 ⟨n - o, by omega⟩ : S1x128.Idx) _ (fun a => ?_)]
    · exact wScaleRow_apply R _
    · match a with
      | ⟨0, _⟩ => show b.val = k0_off2 B.i 0 + 1 * 0; omega
      | ⟨1, _⟩ => show n.val = k0_off2 B.i 1 + 1 * (n - o); omega
  · rw [dif_neg h]
    have hr := congrFun (B.harg13.read_unread (Val := Elt Ideal) B.x11) (ix2 b n)
    by_cases hb0 : b.val = 0
    · rw [View.read_writes_cons_miss_of_axis (Val := Elt Ideal) _ _ _ _ (ix2 b n) 1 o 128 ho rfl rfl (by show n.val < o ∨ o + 128 ≤ n.val; omega)]
      exact hr
    · rw [View.read_writes_cons_miss_of_axis (Val := Elt Ideal) _ _ _ _ (ix2 b n) 0 0 1 h0 rfl rfl (by show b.val < 0 ∨ 0 + 1 ≤ b.val; omega)]
      exact hr

/-- For the second sample: row 1. -/
theorem left11_second (h1 : ¬ k0_cond1 B.i = 1#1) (h2 : k0_cond2 B.i = 1#1) (o : ℕ) (h0 : k0_off3 B.i 0 = 1) (ho : k0_off3 B.i 1 = o)
    (b : Fin 2) (n : Fin 1024) :
    B.arg13.view.read (Elt Ideal) B.run.2.2.2.1 (ix2 b n)
      = if h : b.val = 1 ∧ o ≤ n.val ∧ n.val < o + 128 then (Quant.qscale (R.z ⟨n - o, by omega⟩) : EReal) else B.x11 (ix2 b n) := by
  obtain ⟨hb, e⟩ := run_C11_second (B := B) h1 h2
  rw [e]
  by_cases h : b.val = 1 ∧ o ≤ n.val ∧ n.val < o + 128
  · rw [dif_pos h, View.read_writes_cons_hit_of_coords (Val := Elt Ideal) _ _ _ _ _ (ix2 0 ⟨n - o, by omega⟩ : S1x128.Idx) _ (fun a => ?_)]
    · exact wScaleRow_apply R _
    · match a with
      | ⟨0, _⟩ => show b.val = k0_off3 B.i 0 + 1 * 0; omega
      | ⟨1, _⟩ => show n.val = k0_off3 B.i 1 + 1 * (n - o); omega
  · rw [dif_neg h]
    have hr := congrFun (B.harg13.read_unread (Val := Elt Ideal) B.x11) (ix2 b n)
    by_cases hb0 : b.val = 1
    · rw [View.read_writes_cons_miss_of_axis (Val := Elt Ideal) _ _ _ _ (ix2 b n) 1 o 128 ho rfl rfl (by show n.val < o ∨ o + 128 ≤ n.val; omega)]
      exact hr
    · rw [View.read_writes_cons_miss_of_axis (Val := Elt Ideal) _ _ _ _ (ix2 b n) 0 1 1 h0 rfl rfl (by show b.val < 1 ∨ 1 + 1 ≤ b.val; omega)]
      exact hr

end Cert.KernelIdeal.Gen

end
-- ==== Proof.KernelSteps.lean ====
/- What each grid point leaves, by induction along the grid: the running sums of a sample, the table of scales. -/
module

public import proofs.«01_k».proof.Proof.KernelBlocks
public import proofs.«01_k».proof.Proof.KernelLeft

@[expose] public section

noncomputable section

namespace Cert.KernelIdeal.Gen

open Cert Idealize.ShloMosaic Idealize.ShloMosaic.TcCoe Idealize.SL.Sem

/-- The first `n` blocks of a sample, summed. -/
def upTo (I : Spec.Inputs) (b : Fin 2) (n : ℕ) (k : Fin 3) (l : Fin 3072) : ℝ := ∑ i ∈ Finset.range n, I.part b ⟨i % 8, by omega⟩ k l

/-- The block of running sums after point `t`. -/
def Left8 (I : Spec.Inputs) (t : Fin cfg0.N) (X : Vec Ideal S1x3x3072 .f32) : Prop :=
  ∀ k l, X (ix3 0 k l) = (upTo I (tb t) (t.val % 8 + 1) k l : EReal)
/-- The block's own sums. -/
def Left9 (I : Spec.Inputs) (t : Fin cfg0.N) (X : Vec Ideal S1x1x3x3072 .f32) : Prop :=
  ∀ k l, X (ix4 0 0 k l) = (I.part (tb t) (tt t) k l : EReal)
/-- The block's codes. -/
def Left10 (I : Spec.Inputs) (t : Fin cfg0.N) (X : Vec Ideal S1x128x3072 .fp8e5m2) : Prop :=
  ∀ r l, X (ix3 0 r l) = (I.code (tb t) (Spec.tok (tt t) r) l : EReal)
/-- The table of scales after point `t`: filled in for the tokens so far. -/
def Left11 (I : Spec.Inputs) (t : Fin cfg0.N) (X : Vec Ideal S2x1024 .f32) : Prop :=
  ∀ (b : Fin 2) (n : Fin 1024), 1024 * b.val + n.val < 128 * (t.val + 1) → X (ix2 b n) = (I.scale b n : EReal)

/-- What each result's block holds after point `t`. -/
def Left (I : Spec.Inputs) : Rel Ideal
  | ⟨8, _⟩, t, X => Left8 I t X
  | ⟨9, _⟩, t, X => Left9 I t X
  | ⟨10, _⟩, t, X => Left10 I t X
  | ⟨11, _⟩, t, X => Left11 I t X
  | _, _, _ => True

variable (m : (ℓ : Loc nD τ sig) → Buf (Elt Ideal) ℓ) {I : Spec.Inputs} {c : Dev nD}

/-- The point before. -/
def prev (t : Fin cfg0.N) : Fin cfg0.N := ⟨t.val - 1, Nat.lt_of_le_of_lt (Nat.sub_le _ _) t.isLt⟩

theorem finds8 (t : Fin cfg0.N) (h0 : t.val % 8 ≠ 0) (y : Vec Ideal S1x3x3072 .f32)
    (h : ((dats m c).toRRel marked (Left I)).Finds 8 t y) : Left8 I (prev t) y := by
  rcases (Pipeline.RDat.finds_of_pos _ (w := 8) ((cfg0.win 8).fetch_out rfl t) (by omega) y).mp h with hf | hl
  · have := (flush0_8 _).mp hf
    have e : (t.val - 1) % 8 = 7 := this
    omega
  · exact (dats m c).toRRel_leaves (Rl := Left I) (fgt := marked) (w := 8) rfl hl

theorem finds11 (t : Fin cfg0.N) (h0 : t.val ≠ 0) (y : Vec Ideal S2x1024 .f32)
    (h : ((dats m c).toRRel marked (Left I)).Finds 11 t y) : Left11 I (prev t) y := by
  have ht : t.val < 16 := lt_of_lt_of_eq t.isLt N_0
  rcases (Pipeline.RDat.finds_of_pos _ (w := 11) ((cfg0.win 11).fetch_out rfl t) h0 y).mp h with hf | hl
  · have := (flush0_11 _).mp hf
    have e : (t.val - 1) % 16 = 15 := this
    omega
  · exact (dats m c).toRRel_leaves (Rl := Left I) (fgt := marked) (w := 11) rfl hl

theorem off2_eq : ∀ t : Fin cfg0.N, k0_off2 (grid0.coords t) 0 = 0 ∧ k0_off2 (grid0.coords t) 1 = 128 * (t.val % 8) :=
  (by decide +kernel : ∀ t : Fin grid0.N, k0_off2 (grid0.coords t) 0 = 0 ∧ k0_off2 (grid0.coords t) 1 = 128 * (t.val % 8))
theorem off3_eq : ∀ t : Fin cfg0.N, k0_off3 (grid0.coords t) 0 = 1 ∧ k0_off3 (grid0.coords t) 1 = 128 * (t.val % 8) :=
  (by decide +kernel : ∀ t : Fin grid0.N, k0_off3 (grid0.coords t) 0 = 1 ∧ k0_off3 (grid0.coords t) 1 = 128 * (t.val % 8))

variable {m} (h : Holds m I c) (t : Fin cfg0.N) (y8 : Vec Ideal S1x3x3072 .f32) (y11 : Vec Ideal S2x1024 .f32) (s : Vec Ideal S128x128 .f32)
include h

theorem step8 (h8 : t.val % 8 ≠ 0 → Left8 I (prev t) y8) :
    Left8 I t ((ms0_8 t).view.read (Elt Ideal) (bodyOf m c t y8 y11 s).run.1) := by
  intro k l
  by_cases h0 : t.val % 8 = 0
  · refine (left8_first (realsOf m h t y8 y11 s) ((hcond0_2 t).mpr h0) (fun e => ?_) k l).trans ?_
    · have := (hcond0_3 t).mp e; omega
    · rw [grad_eq t h y8 y11 s k l]
      have key : ∀ (n : ℕ) (hn : n < 8), n = 0 → I.part (tb t) ⟨n, hn⟩ k l = upTo I (tb t) (n + 1) k l := by
        rintro _ hn rfl; unfold upTo; rw [zero_add, Finset.sum_range_one]
      exact congrArg _ (key _ _ h0)
  · refine (left8_next (realsOf m h t y8 y11 s) (fun e => h0 ((hcond0_2 t).mp e)) ((hcond0_3 t).mpr (by omega)) k l).trans ?_
    rw [grad_eq t h y8 y11 s k l]
    refine (congrArg (· + _) (h8 h0 k l)).trans ?_
    refine (EReal.coe_add _ _).symm.trans (congrArg _ ?_)
    have hb : tb (prev t) = tb t := Fin.ext (by show (t.val - 1) / 8 = t.val / 8; omega)
    have hn : (prev t).val % 8 + 1 = t.val % 8 := by show (t.val - 1) % 8 + 1 = t.val % 8; omega
    rw [hb, hn]
    unfold upTo
    rw [Finset.sum_range_succ]
    refine congrArg (_ + ·) ?_
    unfold tt
    simp only [Nat.mod_mod]

theorem step9 (f) : Left9 I t ((ms0_9 t).view.read (Elt Ideal) ((ms0_9 t).view.writes (Elt Ideal) f (bodyOf m c t y8 y11 s).run.2.1)) :=
  fun k l => (left9 (realsOf m h t y8 y11 s) f k l).trans (congrArg _ (grad_eq t h y8 y11 s k l))

theorem step10 (f) : Left10 I t ((ms0_10 t).view.read (Elt Ideal) ((ms0_10 t).view.writes (Elt Ideal) f (bodyOf m c t y8 y11 s).run.2.2.1)) :=
  fun r l => (left10 (realsOf m h t y8 y11 s) f r l).trans (congrArg _ (codeK_eq t h y8 y11 s r l))

theorem step11 (h11 : t.val ≠ 0 → Left11 I (prev t) y11) :
    Left11 I t ((ms0_11 t).view.read (Elt Ideal) (bodyOf m c t y8 y11 s).run.2.2.2.1) := by
  intro b n hbn
  have ht : t.val < 16 := lt_of_lt_of_eq t.isLt N_0
  have hit : ∀ (hh : 128 * (t.val % 8) ≤ n.val ∧ n.val < 128 * (t.val % 8) + 128) (hb : b.val = t.val / 8),
      (Quant.qscale ((realsOf m h t y8 y11 s).z ⟨n - 128 * (t.val % 8), by omega⟩) : EReal) = (I.scale b n : EReal) := fun hh hb => by
    refine congrArg _ ?_
    rw [zK_eq t h y8 y11 s, show tb t = b from Fin.ext hb.symm,
      show Spec.tok (tt t) ⟨n - 128 * (t.val % 8), by omega⟩ = n from Fin.ext (by show 128 * (t.val % 8) + (n.val - 128 * (t.val % 8)) = n.val; omega)]
    rfl
  have miss : ¬ (b.val = t.val / 8 ∧ 128 * (t.val % 8) ≤ n.val ∧ n.val < 128 * (t.val % 8) + 128) → y11 (ix2 b n) = (I.scale b n : EReal) := fun hm =>
    h11 (by omega) b n (by show _ < 128 * (t.val - 1 + 1); omega)
  by_cases h8 : t.val < 8
  · refine (left11_first (realsOf m h t y8 y11 s) ((hcond0_0 t).mpr h8) (fun e => ?_) (128 * (t.val % 8)) (off2_eq t).1 (off2_eq t).2 b n).trans ?_
    · have := (hcond0_1 t).mp e; omega
    · split
      · rename_i hh; exact hit hh.2 (by omega)
      · rename_i hh; exact miss (by omega)
  · refine (left11_second (realsOf m h t y8 y11 s) (fun e => h8 ((hcond0_0 t).mp e)) ((hcond0_1 t).mpr (by omega)) (128 * (t.val % 8)) (off3_eq t).1 (off3_eq t).2 b n).trans ?_
    split
    · rename_i hh; exact hit hh.2 (by omega)
    · rename_i hh; exact miss (by omega)

omit y8 y11 s in
theorem steps : Steps m (Left I) c t := fun y8 y11 s f8 f11 =>
  ⟨step8 h t y8 y11 s (fun h0 => finds8 m t h0 y8 f8), fun f => step9 h t y8 y11 s f, fun f => step10 h t y8 y11 s f,
    step11 h t y8 y11 s (fun h0 => finds11 m t h0 y11 f11)⟩

end Cert.KernelIdeal.Gen

end
-- ==== Proof.KernelArrays.lean ====
/- The whole result arrays after the kernel's run. -/
module

public import proofs.«01_k».proof.Proof.KernelSteps

@[expose] public section

noncomputable section

namespace Cert.KernelIdeal.Gen

open Cert Idealize.ShloMosaic Idealize.ShloMosaic.TcCoe Idealize.SL.Sem
open Idealize.ShloMosaic.Pipeline (Dat)

theorem index8 : ∀ t : Fin cfg0.N, win0_8.index t 0 = t.val / 8 ∧ win0_8.index t 1 = 0 ∧ win0_8.index t 2 = 0 :=
  (by decide +kernel : ∀ t : Fin grid0.N, win0_8.index t 0 = t.val / 8 ∧ win0_8.index t 1 = 0 ∧ win0_8.index t 2 = 0)
theorem index9 : ∀ t : Fin cfg0.N, win0_9.index t 0 = t.val / 8 ∧ win0_9.index t 1 = t.val % 8 ∧ win0_9.index t 2 = 0 ∧ win0_9.index t 3 = 0 :=
  (by decide +kernel : ∀ t : Fin grid0.N, win0_9.index t 0 = t.val / 8 ∧ win0_9.index t 1 = t.val % 8 ∧ win0_9.index t 2 = 0 ∧ win0_9.index t 3 = 0)
theorem index10 : ∀ t : Fin cfg0.N, win0_10.index t 0 = t.val / 8 ∧ win0_10.index t 1 = t.val % 8 ∧ win0_10.index t 2 = 0 :=
  (by decide +kernel : ∀ t : Fin grid0.N, win0_10.index t 0 = t.val / 8 ∧ win0_10.index t 1 = t.val % 8 ∧ win0_10.index t 2 = 0)

theorem idx3_eta (y : S1x3x3072.Idx) : y = ix3 0 (y 1) (y 2) := funext fun a => by
  match a with
  | ⟨0, _⟩ => exact Subsingleton.elim (α := Fin 1) _ _
  | ⟨1, _⟩ => rfl
  | ⟨2, _⟩ => rfl
theorem idx3_eta' (y : S1x128x3072.Idx) : y = ix3 0 (y 1) (y 2) := funext fun a => by
  match a with
  | ⟨0, _⟩ => exact Subsingleton.elim (α := Fin 1) _ _
  | ⟨1, _⟩ => rfl
  | ⟨2, _⟩ => rfl
theorem idx4_eta (y : S1x1x3x3072.Idx) : y = ix4 0 0 (y 2) (y 3) := funext fun a => by
  match a with
  | ⟨0, _⟩ => exact Subsingleton.elim (α := Fin 1) _ _
  | ⟨1, _⟩ => exact Subsingleton.elim (α := Fin 1) _ _
  | ⟨2, _⟩ => rfl
  | ⟨3, _⟩ => rfl
theorem idx2_eta (y : S2x1024.Idx) : y = ix2 (y 0) (y 1) := funext fun a => by
  match a with
  | ⟨0, _⟩ => rfl
  | ⟨1, _⟩ => rfl

theorem upTo_eight (I : Spec.Inputs) (b : Fin 2) (k : Fin 3) (l : Fin 3072) : upTo I b 8 k l = I.total b k l := by
  unfold upTo Spec.Inputs.total
  rw [Finset.sum_range]
  exact Finset.sum_congr rfl fun i _ => by rw [show (⟨i.val % 8, by omega⟩ : Fin 8) = i from Fin.ext (Nat.mod_eq_of_lt i.isLt)]

/-- At a sample's last block the running sums are complete. -/
theorem left8_last {I : Spec.Inputs} {t : Fin cfg0.N} (ht : t.val % 8 = 7) {X : Vec Ideal S1x3x3072 .f32} (h : Left8 I t X) (k : Fin 3) (l : Fin 3072) :
    X (ix3 0 k l) = (I.total (tb t) k l : EReal) := by
  rw [h k l, ht, upTo_eight]

variable {I : Spec.Inputs} {c : Dev nD} (dat : Dat τ (Elt Ideal) Unit ℕ (UR sig nD τ) ℕ cfg0 c)

theorem array8 (hL : ∀ t, (cfg0.win 8).flush t = true → Left8 I t (dat.after 8 t)) : dat.arrAt 8 cfg0.N = I.out0 := by
  refine dat.arrAt_eq_of_covers 8 I.out0 (by decide +kernel) fun t hf y => ?_
  obtain ⟨h0, h1, h2⟩ := index8 t
  have ht : t.val % 8 = 7 := (flush0_8 t).mp hf
  have hy : ((cfg0.win 8).blk t).view.emb y = (ix3 (tb t) (y 1) (y 2) : S2x3x3072.Idx) := funext fun a => Fin.ext (by
    match a with
    | ⟨0, _⟩ => show win0_8.index t 0 * 1 + 1 * (y 0).val = t.val / 8; rw [h0]; have : (y 0).val < 1 := (y 0).isLt; omega
    | ⟨1, _⟩ => show win0_8.index t 1 * 3 + 1 * (y 1).val = (y 1).val; rw [h1]; omega
    | ⟨2, _⟩ => show win0_8.index t 2 * 3072 + 1 * (y 2).val = (y 2).val; rw [h2]; omega)
  rw [hy]
  refine Eq.trans ?_ (left8_last ht (hL t hf) (y 1) (y 2))
  exact congrArg (dat.after 8 t) (idx3_eta y)

theorem array9 (hL : ∀ t, (cfg0.win 9).flush t = true → Left9 I t (dat.after 9 t)) : dat.arrAt 9 cfg0.N = I.out1 := by
  refine dat.arrAt_eq_of_covers 9 I.out1 (by decide +kernel) fun t hf y => ?_
  obtain ⟨h0, h1, h2, h3⟩ := index9 t
  have hy : ((cfg0.win 9).blk t).view.emb y = (ix4 (tb t) (tt t) (y 2) (y 3) : S2x8x3x3072.Idx) := funext fun a => Fin.ext (by
    match a with
    | ⟨0, _⟩ => show win0_9.index t 0 * 1 + 1 * (y 0).val = t.val / 8; rw [h0]; have : (y 0).val < 1 := (y 0).isLt; omega
    | ⟨1, _⟩ => show win0_9.index t 1 * 1 + 1 * (y 1).val = t.val % 8; rw [h1]; have : (y 1).val < 1 := (y 1).isLt; omega
    | ⟨2, _⟩ => show win0_9.index t 2 * 3 + 1 * (y 2).val = (y 2).val; rw [h2]; omega
    | ⟨3, _⟩ => show win0_9.index t 3 * 3072 + 1 * (y 3).val = (y 3).val; rw [h3]; omega)
  rw [hy]
  refine Eq.trans ?_ (hL t hf (y 2) (y 3))
  exact congrArg (dat.after 9 t) (idx4_eta y)

theorem array10 (hL : ∀ t, (cfg0.win 10).flush t = true → Left10 I t (dat.after 10 t)) : dat.arrAt 10 cfg0.N = I.out2 := by
  refine dat.arrAt_eq_of_covers 10 I.out2 (by decide +kernel) fun t hf y => ?_
  obtain ⟨h0, h1, h2⟩ := index10 t
  have hy : ((cfg0.win 10).blk t).view.emb y = (ix3 (tb t) (Spec.tok (tt t) (y 1)) (y 2) : S2x1024x3072.Idx) := funext fun a => Fin.ext (by
    match a with
    | ⟨0, _⟩ => show win0_10.index t 0 * 1 + 1 * (y 0).val = t.val / 8; rw [h0]; have : (y 0).val < 1 := (y 0).isLt; omega
    | ⟨1, _⟩ => show win0_10.index t 1 * 128 + 1 * (y 1).val = 128 * (t.val % 8) + (y 1).val; rw [h1]; omega
    | ⟨2, _⟩ => show win0_10.index t 2 * 3072 + 1 * (y 2).val = (y 2).val; rw [h2]; omega)
  rw [hy]
  refine Eq.trans ?_ (hL t hf (y 1) (y 2))
  exact congrArg (dat.after 10 t) (idx3_eta' y)

theorem array11 (hL : ∀ t, (cfg0.win 11).flush t = true → Left11 I t (dat.after 11 t)) : dat.arrAt 11 cfg0.N = I.out3 := by
  refine dat.arrAt_eq_of_covers 11 I.out3 (by decide +kernel) fun t hf y => ?_
  have ht : t.val % 16 = 15 := (flush0_11 t).mp hf
  have hy : ((cfg0.win 11).blk t).view.emb y = (ix2 (y 0) (y 1) : S2x1024.Idx) := funext fun a => Fin.ext (by
    match a with
    | ⟨0, _⟩ => show 0 * 2 + 1 * (y 0).val = (y 0).val; omega
    | ⟨1, _⟩ => show 0 * 1024 + 1 * (y 1).val = (y 1).val; omega)
  rw [hy]
  have hb : (y 0).val < 2 := (y 0).isLt
  have hn : (y 1).val < 1024 := (y 1).isLt
  refine Eq.trans ?_ (hL t hf (y 0) (y 1) (by omega))
  exact congrArg (dat.after 11 t) (idx2_eta y)

variable (m : (ℓ : Loc nD τ sig) → Buf (Elt Ideal) ℓ) (ρ : Dev nD → PrngReg)

/-- The arguments after the run, and the semaphores: for whatever is said of the results. -/
theorem kept (Rl : Rel Ideal) (r : PUnit × MemSt nD τ sig (Elt Ideal))
    (h : Pipeline.RDat.FramePost cfg0 (fun c => (dats m c).toRRel marked Rl) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (Pipeline.mem_restRefs_of main_arg0 (by decide) (by decide))).trans (V_main_arg0 m c),
    (Pipeline.RDat.FramePost.arr_in h c 1 rfl).trans ((A_eq m c 1).trans (V_main_arg1 m c)),
    (Pipeline.RDat.FramePost.arr_in h c 2 rfl).trans ((A_eq m c 2).trans (V_main_arg2 m c)),
    ((h c).2 main_arg3 (Pipeline.mem_restRefs_of main_arg3 (by decide) (by decide))).trans (V_main_arg3 m c),
    (Pipeline.RDat.FramePost.arr_in h c 4 rfl).trans ((A_eq m c 4).trans (V_main_arg4 m c)),
    ((h c).2 main_arg5 (Pipeline.mem_restRefs_of main_arg5 (by decide) (by decide))).trans (V_main_arg5 m c),
    (Pipeline.RDat.FramePost.arr_in h c 6 rfl).trans ((A_eq m c 6).trans (V_main_arg6 m c)),
    (Pipeline.RDat.FramePost.arr_in h c 7 rfl).trans ((A_eq m c 7).trans (V_main_arg7 m c))⟩

/-- The run keeps the arguments and ends quiescent, from any memory. -/
theorem run_frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => kept m (fun _ _ _ => True) r h.1 c, h.2⟩)
    (run_main m ρ (fun _ _ _ => True) fun _ _ _ _ _ _ _ => ⟨trivial, fun _ => trivial, fun _ => trivial, trivial⟩)

/-- From inputs that are reals, the results are the arrays of Spec.lean. -/
theorem run_value (hI : ∀ c, Holds m I c) : θ_run defs (onTc (τ := τ) (main (F := Ideal))) ⟨m, fun _ => 0, ρ⟩ (fun r => ∀ c : Dev nD,
      r.2.mem ((c.tc : Thread nD τ).loc main_v3_0) = I.out0
      ∧ r.2.mem ((c.tc : Thread nD τ).loc main_v3_1) = I.out1
      ∧ r.2.mem ((c.tc : Thread nD τ).loc main_v3_2) = I.out2
      ∧ r.2.mem ((c.tc : Thread nD τ).loc main_v3_3) = I.out3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ?_) (run_main m ρ (Left I) fun c t => steps (hI c) t)
  obtain ⟨after, hL, hA⟩ := Pipeline.RDat.FramePost.exists_exact h.1 c
  have lv : ∀ (w : Fin cfg0.W) (hw : marked w = true) (t : Fin cfg0.N), (cfg0.win w).flush t = true → Left I w t (after w t) :=
    fun w hw t hf => (dats m c).toRRel_leaves (Rl := Left I) (fgt := marked) hw (hL w t hf)
  exact ⟨(hA 8).trans (array8 _ (lv 8 rfl)), (hA 9).trans (array9 _ (lv 9 rfl)), (hA 10).trans (array10 _ (lv 10 rfl)),
    (hA 11).trans (array11 _ (lv 11 rfl)), kept m (Left I) r h.1 c⟩

end Cert.KernelIdeal.Gen

end
-- ==== Proof.RefRead.lean ====
/- What the reference's body computes over the extended reals when every input is a real number. -/
module

public import proofs.«01_k».proof.Proof.Gen.ReferenceIdeal.Frame
public import proofs.«01_k».proof.Proof.Spec
public import Idealize.ShloMosaic.Lib.Pointwise

@[expose] public section

noncomputable section

namespace Cert.ReferenceIdeal.Gen

open Cert Idealize.ShloMosaic Idealize.ShloMosaic.TcCoe Idealize.SL.Sem

theorem mulI {s : Shape} {φ : FTy} (a b : FVec Ideal s φ) (i : s.Idx) : mulf a b i = (a i * b i : EReal) := rfl
theorem addI {s : Shape} {φ : FTy} (a b : FVec Ideal s φ) (i : s.Idx) : addf a b i = (a i + b i : EReal) := rfl
theorem subI {s : Shape} {φ : FTy} (a b : FVec Ideal s φ) (i : s.Idx) : subf a b i = (a i - b i : EReal) := rfl

theorem coe_sum {ι : Type} [Fintype ι] (f : ι → ℝ) : (∑ x, (f x : EReal)) = ((∑ x, f x : ℝ) : EReal) :=
  (map_sum (⟨⟨fun x : ℝ => (x : EReal), EReal.coe_zero⟩, EReal.coe_add⟩ : ℝ →+ EReal) f Finset.univ).symm

/-- The reference's inputs hold the reals `I`. -/
structure Holds (I : Spec.Inputs) (x0 : Vec Ideal S2x1024x3072 .fp8e4m3) (x1 : Vec Ideal S2x1024 .f32) (x2 : Vec Ideal S2x1024x3072 .bf16)
    (x3 : Vec Ideal S2x1024x3072 .fp8e5m2) (x4 : Vec Ideal S2x1024 .f32) (x5 : Vec Ideal S2x1024x3072 .fp8e5m2) (x6 : Vec Ideal S2x1024 .f32)
    (x7 : Vec Ideal S2x3072 .f32) : Prop where
  hX : ∀ b n l, x0 (ix3 b n l) = (I.X b n l : EReal)
  hA : ∀ b n, x1 (ix2 b n) = (I.A b n : EReal)
  hO : ∀ b n l, x2 (ix3 b n l) = (I.O b n l : EReal)
  hY : ∀ b n l, x3 (ix3 b n l) = (I.Y b n l : EReal)
  hD : ∀ b n, x4 (ix2 b n) = (I.D b n : EReal)
  hH : ∀ b n l, x5 (ix3 b n l) = (I.H b n l : EReal)
  hC : ∀ b n, x6 (ix2 b n) = (I.C b n : EReal)
  hM : ∀ b l, x7 (ix2 b l) = (I.M b l : EReal)

variable (x0 : Vec Ideal S2x1024x3072 .fp8e4m3) (x2 : Vec Ideal S2x1024x3072 .bf16) (x3 : Vec Ideal S2x1024x3072 .fp8e5m2)
  (x1 : Vec Ideal S2x1024 .f32) (x7 : Vec Ideal S2x3072 .f32)
  (v13 v20 v22 v28 v74 : FVec Ideal S2x1024x3072 .f32) (v36 : FVec Ideal S2x1024x1 .f32) (v78 v82 : FVec Ideal S2x1024 .f32)
  (b : Fin 2) (n : Fin 1024) (l : Fin 3072) (t : Fin 8) (k : Fin 3)

theorem pay4_apply : k0_pay4 x3 x1 (ix3 b n l) = (x3 (ix3 b n l) * x1 (ix2 b n) : EReal) := by pointwise [k0_pay4]
theorem pay5_apply : k0_pay5 x3 x1 (ix3 b n l) = (x3 (ix3 b n l) * x1 (ix2 b n) : EReal) := by pointwise [k0_pay5]
theorem pay6_apply : k0_pay6 x2 (ix3 b n l) = x2 (ix3 b n l) := by pointwise [k0_pay6]
theorem pay7_apply : k0_pay7 x0 x1 (ix3 b n l) = (x0 (ix3 b n l) * x1 (ix2 b n)
    - Ideal.div (∑ d, x0 (ix3 b n d) * x1 (ix2 b n)) (Ideal.ofBits .f32 0x45400000#32) : EReal) := by pointwise [k0_pay7]
theorem pay8_apply : k0_pay8 x0 x1 (ix3 b n 0) = Ideal.rsqrt (Ideal.div (∑ d, k0_pay7 x0 x1 (ix3 b n d) * k0_pay7 x0 x1 (ix3 b n d)) (Ideal.ofBits .f32 0x45400000#32)
    + Ideal.ofBits .f32 0x358637BD#32 : EReal) := by
  unfold k0_pay8; generalize k0_pay7 x0 x1 = v; pointwise
theorem pay9_apply : k0_pay9 v28 v36 (ix3 b n l) = (v28 (ix3 b n l) * v36 (ix3 b n 0) : EReal) := by pointwise [k0_pay9]
theorem tok_eq (t : Fin 8) (r : Fin 128) (h : t.val * 128 + r.val < 1024) : (⟨t.val * 128 + r.val, h⟩ : Fin 1024) = Spec.tok t r :=
  Fin.ext (by simp only [Spec.tok]; omega)
theorem pay10_apply : k0_pay10 v13 v20 v22 v28 v36 (ix4 b t k l) = (match k with
    | 0 => ∑ r : Fin 128, v20 (ix3 b (Spec.tok t r) l)
    | 1 => ∑ r : Fin 128, v20 (ix3 b (Spec.tok t r) l) * k0_pay9 v28 v36 (ix3 b (Spec.tok t r) l)
    | 2 => ∑ r : Fin 128, v13 (ix3 b (Spec.tok t r) l) * v22 (ix3 b (Spec.tok t r) l) : EReal) := by
  unfold k0_pay10; generalize k0_pay9 v28 v36 = v
  fin_cases k
  · pointwise; simp only [tok_eq]
  · pointwise; simp only [tok_eq]
  · pointwise; simp only [tok_eq]
theorem pay11_apply : k0_pay11 v13 v20 v22 v28 v36 (ix3 b k l) = (∑ t : Fin 8, k0_pay10 v13 v20 v22 v28 v36 (ix4 b t k l) : EReal) := by
  unfold k0_pay11; generalize k0_pay10 v13 v20 v22 v28 v36 = v; pointwise
theorem pay12_apply : k0_pay12 v13 v20 v28 v36 x7 (ix3 b n l) = (v13 (ix3 b n l) + v36 (ix3 b n 0) * (v20 (ix3 b n l) * (Ideal.ofBits .f32 0x3F800000#32 + x7 (ix2 b l))
    - Ideal.div (∑ d, v20 (ix3 b n d) * (Ideal.ofBits .f32 0x3F800000#32 + x7 (ix2 b d))) (Ideal.ofBits .f32 0x45400000#32)
    - k0_pay9 v28 v36 (ix3 b n l) * Ideal.div (∑ d, v20 (ix3 b n d) * (Ideal.ofBits .f32 0x3F800000#32 + x7 (ix2 b d)) * k0_pay9 v28 v36 (ix3 b n d)) (Ideal.ofBits .f32 0x45400000#32)) : EReal) := by
  unfold k0_pay12; generalize k0_pay9 v28 v36 = v; pointwise
theorem rowMax_apply (v : FVec Ideal S2x1024x3072 .f32) : multiReduction .maximumf [2] S2x1024 v 0xFF800000#32 reduces_S2x1024x3072_S2x1024 (.inl rfl) rfl (ix2 b n)
    = (Finset.univ.sup fun d => v (ix3 b n d) : EReal) := by
  have e : multiReduction .maximumf [2] S2x1024 v 0xFF800000#32 reduces_S2x1024x3072_S2x1024 (.inl rfl) rfl (ix2 b n)
      = Finset.fold max (Ideal.ofBits .f32 0xFF800000#32) (fun d => v (ix3 b n d)) Finset.univ := by pointwise
  rw [e, Quant.lit_bot]; rfl
theorem pay13_apply : k0_pay13 v13 v20 v28 v36 x7 (ix2 b n) = ((Finset.univ.sup fun d => absf (k0_pay12 v13 v20 v28 v36 x7) (ix3 b n d))
    * Ideal.ofBits .f32 0x37924925#32 : EReal) := by
  unfold k0_pay13; generalize k0_pay12 v13 v20 v28 v36 x7 = u; rw [mulI, rowMax_apply]; rfl

end Cert.ReferenceIdeal.Gen

end
-- ==== Proof.RefRead2.lean ====
/- The reference's quantiser over the extended reals. -/
module

public import proofs.«01_k».proof.Proof.RefRead

@[expose] public section

noncomputable section

namespace Cert.ReferenceIdeal.Gen

open Cert Idealize.ShloMosaic Idealize.ShloMosaic.TcCoe Idealize.SL.Sem

variable (x7 : Vec Ideal S2x3072 .f32)
  (v13 v20 v22 v28 v74 : FVec Ideal S2x1024x3072 .f32) (v36 : FVec Ideal S2x1024x1 .f32) (v78 v82 : FVec Ideal S2x1024 .f32)
  (b : Fin 2) (n : Fin 1024) (l : Fin 3072) (t : Fin 8) (k : Fin 3)

theorem log_def (v : FVec Ideal S2x1024 .f32) (i : S2x1024.Idx) : log v i = Ideal.log (v i) := rfl
theorem divI (v w : FVec Ideal S2x1024 .f32) (i : S2x1024.Idx) : divf v w i = Ideal.div (v i) (w i) := rfl
theorem pay14_apply (i : S2x1024.Idx) : k0_pay14 v13 v20 v28 v36 x7 i = (Ideal.div (Ideal.log (k0_pay13 v13 v20 v28 v36 x7 i))
    (Ideal.log (Ideal.ofBits .f32 0x40000000#32)) : EReal) := by
  unfold k0_pay14; generalize k0_pay13 v13 v20 v28 v36 x7 = v
  rw [divI, log_def, log_def]
  generalize hw : (0x40000000#32 : BitVec 32) = w
  rfl
theorem pay1_apply (i : S2x1024.Idx) : k0_pay1 v78 v82 i = (if Ideal.cmp .olt (v78 i) (Ideal.ofBits .f32 0x00800000#32) = 1#1 then Ideal.ofBits .f32 0x00000000#32
    else min (Ideal.liftRound Int.floor (v82 i) + Ideal.ofBits .f32 0x3F800000#32) (Ideal.ofBits .f32 0x42E20000#32) : EReal) := by
  generalize hx : v78 i = x
  generalize hy : v82 i = y
  have e : k0_pay1 v78 v82 i = Scalar.select (FloatOps.cmpf .olt (v78 i) (Scalar.ofBits (F := Ideal) .f32 0x00800000#32)) (Scalar.ofBits (F := Ideal) .f32 0x00000000#32)
      (FloatOps.minimumf (FloatOps.addf (FloatOps.floor (v82 i)) (Scalar.ofBits (F := Ideal) .f32 0x3F800000#32)) (Scalar.ofBits (F := Ideal) .f32 0x42E20000#32)) := by
    with_unfolding_all rfl
  rw [e, Scalar.select_def, hx, hy]
  rfl
theorem pay2_apply : k0_pay2 v78 v82 (ix2 b n) = (Ideal.exp2 (k0_pay1 v78 v82 (ix2 b n)) : EReal) := by
  unfold k0_pay2; generalize k0_pay1 v78 v82 = v; pointwise; rfl
theorem pay3_apply : k0_pay3 v74 v78 v82 (ix3 b n l) = (min (Ideal.ofBits .f32 0x47600000#32) (max (Ideal.ofBits .f32 0xC7600000#32)
    (v74 (ix3 b n l) * Ideal.exp2 (Ideal.ofBits .f32 0x00000000#32 - k0_pay1 v78 v82 (ix2 b n)))) : EReal) := by
  unfold k0_pay3; generalize k0_pay1 v78 v82 = v; pointwise; rfl

end Cert.ReferenceIdeal.Gen

end
-- ==== Proof.RefValue.lean ====
/- The reference's four results at real inputs: the functions of Spec.lean. -/
module

public import proofs.«01_k».proof.Proof.RefRead2

@[expose] public section

noncomputable section

namespace Cert.ReferenceIdeal.Gen

open Cert Idealize.ShloMosaic Idealize.ShloMosaic.TcCoe Idealize.SL.Sem

variable {I : Spec.Inputs} {x0 : Vec Ideal S2x1024x3072 .fp8e4m3} {x1 : Vec Ideal S2x1024 .f32} {x2 : Vec Ideal S2x1024x3072 .bf16}
    {x3 : Vec Ideal S2x1024x3072 .fp8e5m2} {x4 : Vec Ideal S2x1024 .f32} {x5 : Vec Ideal S2x1024x3072 .fp8e5m2} {x6 : Vec Ideal S2x1024 .f32}
    {x7 : Vec Ideal S2x3072 .f32} (h : Holds I x0 x1 x2 x3 x4 x5 x6 x7)
  (b : Fin 2) (n : Fin 1024) (l : Fin 3072) (t : Fin 8) (k : Fin 3)

theorem div_real (r c : ℝ) (hc : c ≠ 0) : Ideal.div (r : EReal) (c : EReal) = ((r / c : ℝ) : EReal) := by
  rw [Ideal.div_coe hc, ← EReal.coe_mul]; congr 1; ring

theorem div_n (r : ℝ) : Ideal.div (r : EReal) (Ideal.ofBits .f32 0x45400000#32) = ((r / 3072 : ℝ) : EReal) := by
  rw [Quant.lit_n, div_real _ _ (by norm_num)]

theorem cmp_lt (a b : ℝ) : Ideal.cmp .olt (a : EReal) (b : EReal) = 1#1 ↔ a < b := by
  show BitVec.ofBool (decide ((a : EReal) < (b : EReal))) = 1#1 ↔ _
  rw [← EReal.coe_lt_coe_iff]
  by_cases h : (a : EReal) < (b : EReal) <;> simp [h]

theorem log_real (r : ℝ) (h : 0 < r) : Ideal.log (r : EReal) = ((Real.log r : ℝ) : EReal) := by
  show (if r ≤ 0 then (⊥ : EReal) else ((Real.log r : ℝ) : EReal)) = _
  rw [if_neg (not_le.mpr h)]

theorem rsqrt_pos (r : ℝ) (h : 0 < r) : Ideal.rsqrt (r : EReal) = (((Real.sqrt r)⁻¹ : ℝ) : EReal) := by
  show (if r < 0 then (⊥ : EReal) else if r = 0 then ⊤ else ((Real.sqrt r)⁻¹ : ℝ)) = _
  rw [if_neg h.not_gt, if_neg h.ne']

theorem one_add (r : ℝ) : Ideal.ofBits .f32 0x3F800000#32 + (r : EReal) = ((1 + r : ℝ) : EReal) := by
  rw [Ideal.ofBits_one_f32, EReal.coe_add]; rfl

include h

theorem v13_eq : k0_pay4 x3 x4 (ix3 b n l) = ((I.Y b n l * I.D b n : ℝ) : EReal) := by rw [pay4_apply, h.hY, h.hD, EReal.coe_mul]
theorem v20_eq : k0_pay5 x5 x6 (ix3 b n l) = ((I.H b n l * I.C b n : ℝ) : EReal) := by rw [pay5_apply, h.hH, h.hC, EReal.coe_mul]
theorem v22_eq : k0_pay6 x2 (ix3 b n l) = (I.O b n l : EReal) := by rw [pay6_apply, h.hO]
theorem v28_eq : k0_pay7 x0 x1 (ix3 b n l) = (Row.xc (I.X b n) (I.A b n) l : EReal) := by
  rw [pay7_apply]
  simp only [h.hX, h.hA, ← EReal.coe_mul]
  rw [coe_sum, div_n, ← EReal.coe_sub]; rfl
theorem v36_eq : k0_pay8 x0 x1 (ix3 b n 0) = (Row.rstd (I.X b n) (I.A b n) : EReal) := by
  rw [pay8_apply]
  simp only [v28_eq h, ← EReal.coe_mul]
  rw [coe_sum, div_n, Quant.lit_eps, ← EReal.coe_add]
  have hp := Row.varK_pos (I.X b n) (I.A b n)
  rw [← Row.var_eq] at hp
  exact (rsqrt_pos _ hp)
theorem v38_eq : k0_pay9 (k0_pay7 x0 x1) (k0_pay8 x0 x1) (ix3 b n l) = (Row.xhat (I.X b n) (I.A b n) l : EReal) := by
  rw [pay9_apply, v28_eq h, v36_eq h, ← EReal.coe_mul]; rfl
theorem v50_eq : k0_pay10 (k0_pay4 x3 x4) (k0_pay5 x5 x6) (k0_pay6 x2) (k0_pay7 x0 x1) (k0_pay8 x0 x1) (ix4 b t k l) = (I.part b t k l : EReal) := by
  rw [pay10_apply]
  unfold Spec.Inputs.part
  fin_cases k
  · show (∑ r : Fin 128, k0_pay5 x5 x6 (ix3 b (Spec.tok t r) l) : EReal) = _
    simp only [v20_eq h]; rw [coe_sum]; rfl
  · show (∑ r : Fin 128, k0_pay5 x5 x6 (ix3 b (Spec.tok t r) l) * k0_pay9 (k0_pay7 x0 x1) (k0_pay8 x0 x1) (ix3 b (Spec.tok t r) l) : EReal) = _
    simp only [v20_eq h, v38_eq h, ← EReal.coe_mul]; rw [coe_sum]; rfl
  · show (∑ r : Fin 128, k0_pay4 x3 x4 (ix3 b (Spec.tok t r) l) * k0_pay6 x2 (ix3 b (Spec.tok t r) l) : EReal) = _
    simp only [v13_eq h, v22_eq h, ← EReal.coe_mul]; rw [coe_sum]; rfl
theorem v51_eq : k0_pay11 (k0_pay4 x3 x4) (k0_pay5 x5 x6) (k0_pay6 x2) (k0_pay7 x0 x1) (k0_pay8 x0 x1) (ix3 b k l) = (I.total b k l : EReal) := by
  rw [pay11_apply]
  simp only [v50_eq h]; rw [coe_sum]; rfl
theorem v74_eq : k0_pay12 (k0_pay4 x3 x4) (k0_pay5 x5 x6) (k0_pay7 x0 x1) (k0_pay8 x0 x1) x7 (ix3 b n l) = (I.dx b n l : EReal) := by
  rw [pay12_apply]
  simp only [v13_eq h, v20_eq h, v36_eq h, v38_eq h, h.hM, one_add, ← EReal.coe_mul]
  rw [coe_sum, coe_sum, div_n, div_n]
  simp only [← EReal.coe_mul, ← EReal.coe_sub, ← EReal.coe_add]
  congr 1
  unfold Spec.Inputs.dx Row.dx Row.mean
  have e : ∀ d, I.U b n d * I.C b n = I.H b n d * I.C b n * (1 + I.M b d) := fun d => by unfold Spec.Inputs.U; ring
  simp only [e]
theorem v78_eq : k0_pay13 (k0_pay4 x3 x4) (k0_pay5 x5 x6) (k0_pay7 x0 x1) (k0_pay8 x0 x1) x7 (ix2 b n) = (I.z b n : EReal) := by
  rw [pay13_apply]
  have e : ∀ d, absf (k0_pay12 (k0_pay4 x3 x4) (k0_pay5 x5 x6) (k0_pay7 x0 x1) (k0_pay8 x0 x1) x7) (ix3 b n d) = ((|I.dx b n d| : ℝ) : EReal) := by
    intro d
    have e := v74_eq h b n d
    generalize k0_pay12 (k0_pay4 x3 x4) (k0_pay5 x5 x6) (k0_pay7 x0 x1) (k0_pay8 x0 x1) x7 = v at e
    rw [show absf v (ix3 b n d) = (max (v (ix3 b n d)) (-(v (ix3 b n d))) : EReal) from rfl, e, ← EReal.coe_neg, abs_eq_max_neg,
      EReal.coe_strictMono.monotone.map_max]
  simp only [e]
  rw [Row.amax_coe, Quant.lit_itop, ← EReal.coe_mul]; rfl

theorem z_nonneg (I : Spec.Inputs) : 0 ≤ I.z b n := mul_nonneg (Row.amax_nonneg _) (by unfold Quant.itop; norm_num)

theorem v91_eq : k0_pay1 (k0_pay13 (k0_pay4 x3 x4) (k0_pay5 x5 x6) (k0_pay7 x0 x1) (k0_pay8 x0 x1) x7)
    (k0_pay14 (k0_pay4 x3 x4) (k0_pay5 x5 x6) (k0_pay7 x0 x1) (k0_pay8 x0 x1) x7) (ix2 b n) = (Quant.qexp (I.z b n) : EReal) := by
  rw [pay1_apply, pay14_apply, v78_eq h]
  unfold Quant.qexp
  rw [Quant.lit_least, Quant.lit_two, Quant.lit_cap, Ideal.ofBits_one_f32, Ideal.ofBits_zero_f32]
  by_cases hz : I.z b n < 2 ^ (-126 : ℤ)
  · rw [if_pos hz, if_pos ((cmp_lt _ _).mpr hz)]; rfl
  · have hp : 0 < I.z b n := lt_of_lt_of_le (by positivity) (not_lt.mp hz)
    rw [if_neg hz, if_neg (fun hc => hz ((cmp_lt _ _).mp hc))]
    have h2 : Real.log 2 ≠ 0 := (Real.log_pos (by norm_num)).ne'
    rw [log_real _ hp, log_real 2 (by norm_num), div_real _ _ h2,
      show ∀ r : ℝ, Ideal.liftRound Int.floor (r : EReal) = (((⌊r⌋ : ℤ) : ℝ) : EReal) from fun _ => rfl, EReal.coe_strictMono.monotone.map_min, EReal.coe_add]; rfl

theorem v92_eq : k0_pay2 (k0_pay13 (k0_pay4 x3 x4) (k0_pay5 x5 x6) (k0_pay7 x0 x1) (k0_pay8 x0 x1) x7)
    (k0_pay14 (k0_pay4 x3 x4) (k0_pay5 x5 x6) (k0_pay7 x0 x1) (k0_pay8 x0 x1) x7) (ix2 b n) = (I.scale b n : EReal) := by
  rw [pay2_apply, v91_eq h]; rfl

theorem v103_eq : k0_pay3 (k0_pay12 (k0_pay4 x3 x4) (k0_pay5 x5 x6) (k0_pay7 x0 x1) (k0_pay8 x0 x1) x7)
    (k0_pay13 (k0_pay4 x3 x4) (k0_pay5 x5 x6) (k0_pay7 x0 x1) (k0_pay8 x0 x1) x7)
    (k0_pay14 (k0_pay4 x3 x4) (k0_pay5 x5 x6) (k0_pay7 x0 x1) (k0_pay8 x0 x1) x7) (ix3 b n l) = (I.code b n l : EReal) := by
  rw [pay3_apply, v91_eq h, v74_eq h, Quant.lit_top, Quant.lit_ntop, Ideal.ofBits_zero_f32,
    show ((0 : EReal) - (Quant.qexp (I.z b n) : EReal)) = ((0 - Quant.qexp (I.z b n) : ℝ) : EReal) by simp, Ideal.exp2_coe,
    ← EReal.coe_mul, Spec.Inputs.code, EReal.coe_strictMono.monotone.map_min, EReal.coe_strictMono.monotone.map_max]; rfl

end Cert.ReferenceIdeal.Gen

end
-- ==== Proof.RefRun.lean ====
/- The reference's run: its result arrays are those of Spec.lean. -/
module

public import proofs.«01_k».proof.Proof.RefValue
public import Idealize.ShloMosaic.Lib.Pipeline.Value
public import Idealize.ShloMosaic.Lib.Pipeline.ValueKit

@[expose] public section

noncomputable section

namespace Cert.ReferenceIdeal.Gen

open Cert Idealize.ShloMosaic Idealize.ShloMosaic.TcCoe Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

section
variable (x0 : Vec Ideal S2x1024x3072 .fp8e4m3) (x1 : Vec Ideal S2x1024 .f32) (x2 : Vec Ideal S2x1024x3072 .bf16)
    (x3 : Vec Ideal S2x1024x3072 .fp8e5m2) (x4 : Vec Ideal S2x1024 .f32) (x5 : Vec Ideal S2x1024x3072 .fp8e5m2) (x6 : Vec Ideal S2x1024 .f32)
    (x7 : Vec Ideal S2x3072 .f32)

theorem out8_eq : out0_8 x0 x1 x2 x3 x4 x5 x6 x7
    = k0_pay11 (k0_pay4 x3 x4) (k0_pay5 x5 x6) (k0_pay6 x2) (k0_pay7 x0 x1) (k0_pay8 x0 x1) := by
  unfold out0_8 k0_pay19 k0_pay18 k0_pay17 k0_pay16 k0_pay15
  rw [View.canon_unit_zero (Val := Elt Ideal) hz3]
  simp only [View.ld_unit_zero (Val := Elt Ideal) (S := S2x1024x3072) hz3, View.ld_unit_zero (Val := Elt Ideal) (S := S2x1024) hz2]
theorem out9_eq : out0_9 x0 x1 x2 x3 x4 x5 x6 x7
    = k0_pay10 (k0_pay4 x3 x4) (k0_pay5 x5 x6) (k0_pay6 x2) (k0_pay7 x0 x1) (k0_pay8 x0 x1) := by
  unfold out0_9 k0_pay19 k0_pay18 k0_pay17 k0_pay16 k0_pay15
  rw [View.canon_unit_zero (Val := Elt Ideal) hz4]
  simp only [View.ld_unit_zero (Val := Elt Ideal) (S := S2x1024x3072) hz3, View.ld_unit_zero (Val := Elt Ideal) (S := S2x1024) hz2]
theorem out10_eq : out0_10 x0 x1 x2 x3 x4 x5 x6 x7
    = k0_pay3 (k0_pay12 (k0_pay4 x3 x4) (k0_pay5 x5 x6) (k0_pay7 x0 x1) (k0_pay8 x0 x1) x7)
      (k0_pay13 (k0_pay4 x3 x4) (k0_pay5 x5 x6) (k0_pay7 x0 x1) (k0_pay8 x0 x1) x7)
      (k0_pay14 (k0_pay4 x3 x4) (k0_pay5 x5 x6) (k0_pay7 x0 x1) (k0_pay8 x0 x1) x7) := by
  unfold out0_10 k0_pay21 k0_pay20 k0_pay19 k0_pay18 k0_pay16 k0_pay15
  rw [View.canon_unit_zero (Val := Elt Ideal) hz3]
  simp only [View.ld_unit_zero (Val := Elt Ideal) (S := S2x1024x3072) hz3, View.ld_unit_zero (Val := Elt Ideal) (S := S2x1024) hz2,
    View.ld_unit_zero (Val := Elt Ideal) (S := S2x3072) hz2]
theorem out11_eq : out0_11 x0 x1 x2 x3 x4 x5 x6 x7
    = k0_pay2 (k0_pay13 (k0_pay4 x3 x4) (k0_pay5 x5 x6) (k0_pay7 x0 x1) (k0_pay8 x0 x1) x7)
      (k0_pay14 (k0_pay4 x3 x4) (k0_pay5 x5 x6) (k0_pay7 x0 x1) (k0_pay8 x0 x1) x7) := by
  unfold out0_11 k0_pay21 k0_pay20 k0_pay19 k0_pay18 k0_pay16 k0_pay15
  rw [View.canon_unit_zero (Val := Elt Ideal) hz2]
  simp only [View.ld_unit_zero (Val := Elt Ideal) (S := S2x1024x3072) hz3, View.ld_unit_zero (Val := Elt Ideal) (S := S2x1024) hz2,
    View.ld_unit_zero (Val := Elt Ideal) (S := S2x3072) hz2]
end

theorem eta3 {a b d : ℕ} (y : (⟨3, ![a, b, d]⟩ : Shape).Idx) : y = ix3 (y 0) (y 1) (y 2) := funext fun i => by
  match i with
  | ⟨0, _⟩ => rfl
  | ⟨1, _⟩ => rfl
  | ⟨2, _⟩ => rfl
theorem eta2 {a b : ℕ} (y : (⟨2, ![a, b]⟩ : Shape).Idx) : y = ix2 (y 0) (y 1) := funext fun i => by
  match i with
  | ⟨0, _⟩ => rfl
  | ⟨1, _⟩ => rfl
theorem eta4 {a b d e : ℕ} (y : (⟨4, ![a, b, d, e]⟩ : Shape).Idx) : y = ix4 (y 0) (y 1) (y 2) (y 3) := funext fun i => by
  match i with
  | ⟨0, _⟩ => rfl
  | ⟨1, _⟩ => rfl
  | ⟨2, _⟩ => rfl
  | ⟨3, _⟩ => rfl

section
variable {I : Spec.Inputs} {x0 : Vec Ideal S2x1024x3072 .fp8e4m3} {x1 : Vec Ideal S2x1024 .f32} {x2 : Vec Ideal S2x1024x3072 .bf16}
    {x3 : Vec Ideal S2x1024x3072 .fp8e5m2} {x4 : Vec Ideal S2x1024 .f32} {x5 : Vec Ideal S2x1024x3072 .fp8e5m2} {x6 : Vec Ideal S2x1024 .f32}
    {x7 : Vec Ideal S2x3072 .f32} (h : Holds I x0 x1 x2 x3 x4 x5 x6 x7)
include h

theorem out8_spec (y : S2x3x3072.Idx) : out0_8 x0 x1 x2 x3 x4 x5 x6 x7 y = I.out0 y := by
  rw [out8_eq]
  exact (congrArg _ (eta3 y)).trans (v51_eq h (y 0) (y 2) (y 1))
theorem out9_spec (y : S2x8x3x3072.Idx) : out0_9 x0 x1 x2 x3 x4 x5 x6 x7 y = I.out1 y := by
  rw [out9_eq]
  exact (congrArg _ (eta4 y)).trans (v50_eq h (y 0) (y 3) (y 1) (y 2))
theorem out10_spec (y : S2x1024x3072.Idx) : out0_10 x0 x1 x2 x3 x4 x5 x6 x7 y = I.out2 y := by
  rw [out10_eq]
  exact (congrArg _ (eta3 y)).trans (v103_eq h (y 0) (y 1) (y 2))
theorem out11_spec (y : S2x1024.Idx) : out0_11 x0 x1 x2 x3 x4 x5 x6 x7 y = I.out3 y := by
  rw [out11_eq]
  exact (congrArg _ (eta2 y)).trans (v92_eq h (y 0) (y 1))
end

variable (m : (ℓ : Loc nD τ sig) → Buf (Elt Ideal) ℓ) (ρ : Dev nD → PrngReg) {I : Spec.Inputs} (c : Dev nD)

/-- The reference's one block of each array is the array: an index of the block is that index of the array. -/
theorem emb0 (t : Fin cfg0.N) (y : S2x1024x3072.Idx) : (((cfg0.win 0).blk t).view.emb y : S2x1024x3072.Idx) = y := by
  funext a; apply Fin.ext
  match a with
  | ⟨0, _⟩ => show 0 * 2 + 1 * (y 0).val = (y 0).val; omega
  | ⟨1, _⟩ => show 0 * 1024 + 1 * (y 1).val = (y 1).val; omega
  | ⟨2, _⟩ => show 0 * 3072 + 1 * (y 2).val = (y 2).val; omega
theorem emb1 (t : Fin cfg0.N) (y : S2x1024.Idx) : (((cfg0.win 1).blk t).view.emb y : S2x1024.Idx) = y := by
  funext a; apply Fin.ext
  match a with
  | ⟨0, _⟩ => show 0 * 2 + 1 * (y 0).val = (y 0).val; omega
  | ⟨1, _⟩ => show 0 * 1024 + 1 * (y 1).val = (y 1).val; omega
theorem emb2 (t : Fin cfg0.N) (y : S2x1024x3072.Idx) : (((cfg0.win 2).blk t).view.emb y : S2x1024x3072.Idx) = y := by
  funext a; apply Fin.ext
  match a with
  | ⟨0, _⟩ => show 0 * 2 + 1 * (y 0).val = (y 0).val; omega
  | ⟨1, _⟩ => show 0 * 1024 + 1 * (y 1).val = (y 1).val; omega
  | ⟨2, _⟩ => show 0 * 3072 + 1 * (y 2).val = (y 2).val; omega
theorem emb3 (t : Fin cfg0.N) (y : S2x1024x3072.Idx) : (((cfg0.win 3).blk t).view.emb y : S2x1024x3072.Idx) = y := by
  funext a; apply Fin.ext
  match a with
  | ⟨0, _⟩ => show 0 * 2 + 1 * (y 0).val = (y 0).val; omega
  | ⟨1, _⟩ => show 0 * 1024 + 1 * (y 1).val = (y 1).val; omega
  | ⟨2, _⟩ => show 0 * 3072 + 1 * (y 2).val = (y 2).val; omega
theorem emb4 (t : Fin cfg0.N) (y : S2x1024.Idx) : (((cfg0.win 4).blk t).view.emb y : S2x1024.Idx) = y := by
  funext a; apply Fin.ext
  match a with
  | ⟨0, _⟩ => show 0 * 2 + 1 * (y 0).val = (y 0).val; omega
  | ⟨1, _⟩ => show 0 * 1024 + 1 * (y 1).val = (y 1).val; omega
theorem emb5 (t : Fin cfg0.N) (y : S2x1024x3072.Idx) : (((cfg0.win 5).blk t).view.emb y : S2x1024x3072.Idx) = y := by
  funext a; apply Fin.ext
  match a with
  | ⟨0, _⟩ => show 0 * 2 + 1 * (y 0).val = (y 0).val; omega
  | ⟨1, _⟩ => show 0 * 1024 + 1 * (y 1).val = (y 1).val; omega
  | ⟨2, _⟩ => show 0 * 3072 + 1 * (y 2).val = (y 2).val; omega
theorem emb6 (t : Fin cfg0.N) (y : S2x1024.Idx) : (((cfg0.win 6).blk t).view.emb y : S2x1024.Idx) = y := by
  funext a; apply Fin.ext
  match a with
  | ⟨0, _⟩ => show 0 * 2 + 1 * (y 0).val = (y 0).val; omega
  | ⟨1, _⟩ => show 0 * 1024 + 1 * (y 1).val = (y 1).val; omega
theorem emb7 (t : Fin cfg0.N) (y : S2x3072.Idx) : (((cfg0.win 7).blk t).view.emb y : S2x3072.Idx) = y := by
  funext a; apply Fin.ext
  match a with
  | ⟨0, _⟩ => show 0 * 2 + 1 * (y 0).val = (y 0).val; omega
  | ⟨1, _⟩ => show 0 * 3072 + 1 * (y 1).val = (y 1).val; omega
theorem emb8 (t : Fin cfg0.N) (y : S2x3x3072.Idx) : (((cfg0.win 8).blk t).view.emb y : S2x3x3072.Idx) = y := by
  funext a; apply Fin.ext
  match a with
  | ⟨0, _⟩ => show 0 * 2 + 1 * (y 0).val = (y 0).val; omega
  | ⟨1, _⟩ => show 0 * 3 + 1 * (y 1).val = (y 1).val; omega
  | ⟨2, _⟩ => show 0 * 3072 + 1 * (y 2).val = (y 2).val; omega
theorem emb9 (t : Fin cfg0.N) (y : S2x8x3x3072.Idx) : (((cfg0.win 9).blk t).view.emb y : S2x8x3x3072.Idx) = y := by
  funext a; apply Fin.ext
  match a with
  | ⟨0, _⟩ => show 0 * 2 + 1 * (y 0).val = (y 0).val; omega
  | ⟨1, _⟩ => show 0 * 8 + 1 * (y 1).val = (y 1).val; omega
  | ⟨2, _⟩ => show 0 * 3 + 1 * (y 2).val = (y 2).val; omega
  | ⟨3, _⟩ => show 0 * 3072 + 1 * (y 3).val = (y 3).val; omega
theorem emb10 (t : Fin cfg0.N) (y : S2x1024x3072.Idx) : (((cfg0.win 10).blk t).view.emb y : S2x1024x3072.Idx) = y := by
  funext a; apply Fin.ext
  match a with
  | ⟨0, _⟩ => show 0 * 2 + 1 * (y 0).val = (y 0).val; omega
  | ⟨1, _⟩ => show 0 * 1024 + 1 * (y 1).val = (y 1).val; omega
  | ⟨2, _⟩ => show 0 * 3072 + 1 * (y 2).val = (y 2).val; omega
theorem emb11 (t : Fin cfg0.N) (y : S2x1024.Idx) : (((cfg0.win 11).blk t).view.emb y : S2x1024.Idx) = y := by
  funext a; apply Fin.ext
  match a with
  | ⟨0, _⟩ => show 0 * 2 + 1 * (y 0).val = (y 0).val; omega
  | ⟨1, _⟩ => show 0 * 1024 + 1 * (y 1).val = (y 1).val; omega
theorem iblk_eq0 (t : Fin cfg0.N) : (iblk m c 0 t : Vec Ideal S2x1024x3072 .fp8e4m3) = V m c main_v0 := by
  funext y; unfold iblk; rw [View.read_apply]; exact congrArg (V m c main_v0) (emb0 t y)
theorem iblk_eq1 (t : Fin cfg0.N) : (iblk m c 1 t : Vec Ideal S2x1024 .f32) = V m c main_arg1 := by
  funext y; unfold iblk; rw [View.read_apply]; exact congrArg (V m c main_arg1) (emb1 t y)
theorem iblk_eq2 (t : Fin cfg0.N) : (iblk m c 2 t : Vec Ideal S2x1024x3072 .bf16) = V m c main_arg2 := by
  funext y; unfold iblk; rw [View.read_apply]; exact congrArg (V m c main_arg2) (emb2 t y)
theorem iblk_eq3 (t : Fin cfg0.N) : (iblk m c 3 t : Vec Ideal S2x1024x3072 .fp8e5m2) = V m c main_v1 := by
  funext y; unfold iblk; rw [View.read_apply]; exact congrArg (V m c main_v1) (emb3 t y)
theorem iblk_eq4 (t : Fin cfg0.N) : (iblk m c 4 t : Vec Ideal S2x1024 .f32) = V m c main_arg4 := by
  funext y; unfold iblk; rw [View.read_apply]; exact congrArg (V m c main_arg4) (emb4 t y)
theorem iblk_eq5 (t : Fin cfg0.N) : (iblk m c 5 t : Vec Ideal S2x1024x3072 .fp8e5m2) = V m c main_v2 := by
  funext y; unfold iblk; rw [View.read_apply]; exact congrArg (V m c main_v2) (emb5 t y)
theorem iblk_eq6 (t : Fin cfg0.N) : (iblk m c 6 t : Vec Ideal S2x1024 .f32) = V m c main_arg6 := by
  funext y; unfold iblk; rw [View.read_apply]; exact congrArg (V m c main_arg6) (emb6 t y)
theorem iblk_eq7 (t : Fin cfg0.N) : (iblk m c 7 t : Vec Ideal S2x3072 .f32) = V m c main_arg7 := by
  funext y; unfold iblk; rw [View.read_apply]; exact congrArg (V m c main_arg7) (emb7 t y)

section
variable {c} (dat : Dat τ (Elt Ideal) Unit ℕ (UR sig nD τ) ℕ cfg0 c)
/-- A result array is what the one point leaves. -/
theorem array8 (hL : ∀ (t : Fin cfg0.N) (y : S2x3x3072.Idx), (dat.after 8 t : Vec Ideal S2x3x3072 .f32) y = I.out0 y) : dat.arrAt 8 cfg0.N = I.out0 := by
  refine dat.arrAt_eq_of_covers 8 I.out0 (by decide +kernel) fun t hf y => ?_
  rw [emb8]
  refine Eq.trans ?_ (hL t y)
  rfl
theorem array9 (hL : ∀ (t : Fin cfg0.N) (y : S2x8x3x3072.Idx), (dat.after 9 t : Vec Ideal S2x8x3x3072 .f32) y = I.out1 y) : dat.arrAt 9 cfg0.N = I.out1 := by
  refine dat.arrAt_eq_of_covers 9 I.out1 (by decide +kernel) fun t hf y => ?_
  rw [emb9]
  refine Eq.trans ?_ (hL t y)
  rfl
theorem array10 (hL : ∀ (t : Fin cfg0.N) (y : S2x1024x3072.Idx), (dat.after 10 t : Vec Ideal S2x1024x3072 .fp8e5m2) y = I.out2 y) : dat.arrAt 10 cfg0.N = I.out2 := by
  refine dat.arrAt_eq_of_covers 10 I.out2 (by decide +kernel) fun t hf y => ?_
  rw [emb10]
  refine Eq.trans ?_ (hL t y)
  rfl
theorem array11 (hL : ∀ (t : Fin cfg0.N) (y : S2x1024.Idx), (dat.after 11 t : Vec Ideal S2x1024 .f32) y = I.out3 y) : dat.arrAt 11 cfg0.N = I.out3 := by
  refine dat.arrAt_eq_of_covers 11 I.out3 (by decide +kernel) fun t hf y => ?_
  rw [emb11]
  refine Eq.trans ?_ (hL t y)
  rfl
end

/-- The arrays the reference reads hold the reals `I`. -/
abbrev Arrays (I : Spec.Inputs) : Prop :=
  Holds I (V m c main_v0) (V m c main_arg1) (V m c main_arg2) (V m c main_v1) (V m c main_arg4) (V m c main_v2) (V m c main_arg6) (V m c main_arg7)

section
variable {m c} (h : Arrays m c I)
include h

theorem blocks_hold (t : Fin cfg0.N) : Holds I (iblk m c 0 t) (iblk m c 1 t) (iblk m c 2 t) (iblk m c 3 t) (iblk m c 4 t) (iblk m c 5 t) (iblk m c 6 t) (iblk m c 7 t) := by
  rw [iblk_eq0, iblk_eq1, iblk_eq2, iblk_eq3, iblk_eq4, iblk_eq5, iblk_eq6, iblk_eq7]; exact h

theorem after8 (t : Fin cfg0.N) (y : S2x3x3072.Idx) : ((dats m 0 c).after 8 t : Vec Ideal S2x3x3072 .f32) y = I.out0 y :=
  (congrFun (after0_8 m c t) y).trans (out8_spec (blocks_hold h t) y)
theorem after9 (t : Fin cfg0.N) (y : S2x8x3x3072.Idx) : ((dats m 0 c).after 9 t : Vec Ideal S2x8x3x3072 .f32) y = I.out1 y :=
  (congrFun (after0_9 m c t) y).trans (out9_spec (blocks_hold h t) y)
theorem after10 (t : Fin cfg0.N) (y : S2x1024x3072.Idx) : ((dats m 0 c).after 10 t : Vec Ideal S2x1024x3072 .fp8e5m2) y = I.out2 y :=
  (congrFun (after0_10 m c t) y).trans (out10_spec (blocks_hold h t) y)
theorem after11 (t : Fin cfg0.N) (y : S2x1024.Idx) : ((dats m 0 c).after 11 t : Vec Ideal S2x1024 .f32) y = I.out3 y :=
  (congrFun (after0_11 m c t) y).trans (out11_spec (blocks_hold h t) y)
end

/-- From inputs that are reals, the results are the arrays of Spec.lean, and the arguments are kept. -/
theorem run_value (hI : ∀ c, Arrays m c I) : θ_run defs (onTc (τ := τ) (main (F := Ideal))) ⟨m, fun _ => 0, ρ⟩ (fun r => ∀ c : Dev nD,
      r.2.mem ((c.tc : Thread nD τ).loc main_v3_0) = I.out0
      ∧ r.2.mem ((c.tc : Thread nD τ).loc main_v3_1) = I.out1
      ∧ r.2.mem ((c.tc : Thread nD τ).loc main_v3_2) = I.out2
      ∧ r.2.mem ((c.tc : Thread nD τ).loc main_v3_3) = I.out3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨((h c).1 8).trans (array8 _ (after8 (hI c))), ((h c).1 9).trans (array9 _ (after9 (hI c))), ((h c).1 10).trans (array10 _ (after10 (hI c))), ((h c).1 11).trans (array11 _ (after11 (hI c))),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c)))⟩)
    (run_main m ρ)

end Cert.ReferenceIdeal.Gen

end
-- ==== Proof.InputsReal.lean ====
/- The precondition, element by element: every input is a real number. -/
module

public import proofs.«01_k».proof.Pre_finite
public import Idealize.ShloMosaic.Lib.Pointwise

@[expose] public section

noncomputable section

namespace Cert.Pre_finite

open Cert Idealize.ShloMosaic

/-- A value that is its own real part. -/
def IsReal (v : EReal) : Prop := v = ((v.toReal : ℝ) : EReal)

theorem isReal_coe (r : ℝ) : IsReal (r : EReal) := by unfold IsReal; rw [EReal.toReal_coe]

theorem inf32 : Ideal.ofBits .f32 0x7F800000#32 = ⊤ := by simp [Ideal.ofBits, Ideal.ieee]
theorem inf16 : Ideal.ofBits .bf16 0x7F80#16 = ⊤ := by simp [Ideal.ofBits, Ideal.ieee]

/-- A value below infinity in magnitude is a real. -/
theorem isReal_of_abs (v : EReal) (h : max v (-v) < ⊤) : IsReal v := by
  have h1 : v ≠ ⊤ := fun e => by rw [e] at h; simp at h
  have h2 : v ≠ ⊥ := fun e => by rw [e] at h; simp at h
  exact (EReal.coe_toReal h1 h2).symm

/-- The remainder of a byte by 128, as the host computes it. -/
def rem (b : BitVec 8) : BitVec 32 :=
  let d : BitVec 32 := Scalar.select (IntOp.cmpi .eq 128#32 0#32) 1#32 128#32
  let r : BitVec 32 := IntOp.remsi ArithUnit.host (BitVec.setWidth 32 b) d
  Scalar.select (IntOp.andi (IntOp.cmpi .ne (IntOp.cmpi .slt r 0#32) (IntOp.cmpi .slt d 0#32)) (IntOp.cmpi .ne r 0#32)) (IntOp.addi r d) r

variable [Facts]

theorem rem_apply (x : IVec S2x1024x3072 8) (i : S2x1024x3072.Idx) :
    fn_remainder (F := Ideal) ((extui 32 · Facts.natLt_8_32) x) (constantI S_ 32 128#32) i = rem (x i) := by
  pointwise [fn_remainder, fn_where]; rfl

omit [Facts] in
theorem rem4 : ∀ b : BitVec 8, IntOp.cmpi .ne (rem b) 127#32 = 1#1 → ¬ ((b.extractLsb' 3 4).toNat = 15 ∧ (b.extractLsb' 0 3).toNat = 7) := by decide +kernel
omit [Facts] in
theorem rem5 : ∀ b : BitVec 8, IntOp.cmpi .slt (rem b) 124#32 = 1#1 → ¬ ((b.extractLsb' 2 5).toNat = 2 ^ 5 - 1) := by decide +kernel

omit [Facts] in
theorem isReal_e4m3 (b : BitVec 8) (h : IntOp.cmpi .ne (rem b) 127#32 = 1#1) : IsReal (Ideal.ofBits .fp8e4m3 b) := by
  have hb := rem4 b h
  show IsReal (Ideal.e4m3fn b)
  unfold Ideal.e4m3fn
  rw [if_neg hb]
  split
  · exact isReal_coe _
  · exact isReal_coe _
omit [Facts] in
theorem isReal_e5m2 (b : BitVec 8) (h : IntOp.cmpi .slt (rem b) 124#32 = 1#1) : IsReal (Ideal.ofBits .fp8e5m2 b) := by
  have hb := rem5 b h
  show IsReal (Ideal.ieee 5 2 b)
  unfold Ideal.ieee
  rw [if_neg hb]
  split
  · exact isReal_coe _
  · exact isReal_coe _

section
variable (x : IVec S2x1024x3072 8) (i : S2x1024x3072.Idx)
theorem byte4 (h : cmpi .ne (fn_remainder (F := Ideal) ((extui 32 · Facts.natLt_8_32) x) (constantI S_ 32 128#32))
    (broadcastInDim S2x1024x3072 ![] Facts.bcast_S_S2x1024x3072 (constantI S_ 32 127#32)) i = 1#1) : IsReal (Ideal.ofBits .fp8e4m3 (x i)) := by
  refine isReal_e4m3 _ (Eq.trans ?_ h)
  rw [← rem_apply]; rfl
theorem byte5 (h : cmpi .slt (fn_remainder (F := Ideal) ((extui 32 · Facts.natLt_8_32) x) (constantI S_ 32 128#32))
    (broadcastInDim S2x1024x3072 ![] Facts.bcast_S_S2x1024x3072 (constantI S_ 32 124#32)) i = 1#1) : IsReal (Ideal.ofBits .fp8e5m2 (x i)) := by
  refine isReal_e5m2 _ (Eq.trans ?_ h)
  rw [← rem_apply]; rfl
end

omit [Facts] in
theorem float32 {s : Shape} (x : FVec Ideal s .f32) (z : FVec Ideal s .f32) (i : s.Idx) (hz : z i = Ideal.ofBits .f32 0x7F800000#32)
    (h : cmpf .olt (Host.absf x) z i = 1#1) : IsReal (x i) := by
  have h' : BitVec.ofBool (decide (max (x i : EReal) (-(x i : EReal)) < z i)) = 1#1 := h
  rw [hz, inf32] at h'
  by_cases hv : max (x i : EReal) (-(x i : EReal)) < ⊤
  · exact isReal_of_abs _ hv
  · rw [decide_eq_false hv] at h'; exact absurd h' (by decide)
omit [Facts] in
theorem float16 {s : Shape} (x : FVec Ideal s .bf16) (z : FVec Ideal s .bf16) (i : s.Idx) (hz : z i = Ideal.ofBits .bf16 0x7F80#16)
    (h : cmpf .olt (Host.absf x) z i = 1#1) : IsReal (x i) := by
  have h' : BitVec.ofBool (decide (max (x i : EReal) (-(x i : EReal)) < z i)) = 1#1 := h
  rw [hz, inf16] at h'
  by_cases hv : max (x i : EReal) (-(x i : EReal)) < ⊤
  · exact isReal_of_abs _ hv
  · rw [decide_eq_false hv] at h'; exact absurd h' (by decide)

section
variable (a0 : IVec S2x1024x3072 8) (a1 : FVec Ideal S2x1024 .f32) (a2 : FVec Ideal S2x1024x3072 .bf16) (a3 : IVec S2x1024x3072 8)
  (a4 : FVec Ideal S2x1024 .f32) (a5 : IVec S2x1024x3072 8) (a6 : FVec Ideal S2x1024 .f32) (a7 : FVec Ideal S2x3072 .f32)

theorem real0 (h : (fn (F := Ideal) a0 a1 a2 a3 a4 a5 a6 a7).1 = fun _ => 1#1) (i) : IsReal (Ideal.ofBits .fp8e4m3 (a0 i)) := byte4 a0 i (congrFun h i)
theorem real3 (h : (fn (F := Ideal) a0 a1 a2 a3 a4 a5 a6 a7).2.1 = fun _ => 1#1) (i) : IsReal (Ideal.ofBits .fp8e5m2 (a3 i)) := byte5 a3 i (congrFun h i)
theorem real5 (h : (fn (F := Ideal) a0 a1 a2 a3 a4 a5 a6 a7).2.2.1 = fun _ => 1#1) (i) : IsReal (Ideal.ofBits .fp8e5m2 (a5 i)) := byte5 a5 i (congrFun h i)
theorem real1 (h : (fn (F := Ideal) a0 a1 a2 a3 a4 a5 a6 a7).2.2.2.1 = fun _ => 1#1) (i) : IsReal (a1 i) := float32 a1 _ i rfl (congrFun h i)
theorem real2 (h : (fn (F := Ideal) a0 a1 a2 a3 a4 a5 a6 a7).2.2.2.2.1 = fun _ => 1#1) (i) : IsReal (a2 i) := float16 a2 _ i rfl (congrFun h i)
theorem real4 (h : (fn (F := Ideal) a0 a1 a2 a3 a4 a5 a6 a7).2.2.2.2.2.1 = fun _ => 1#1) (i) : IsReal (a4 i) := float32 a4 _ i rfl (congrFun h i)
theorem real6 (h : (fn (F := Ideal) a0 a1 a2 a3 a4 a5 a6 a7).2.2.2.2.2.2.1 = fun _ => 1#1) (i) : IsReal (a6 i) := float32 a6 _ i rfl (congrFun h i)
theorem real7 (h : (fn (F := Ideal) a0 a1 a2 a3 a4 a5 a6 a7).2.2.2.2.2.2.2 = fun _ => 1#1) (i) : IsReal (a7 i) := float32 a7 _ i rfl (congrFun h i)
end

end Cert.Pre_finite

end
-- ==== Proof.KernelHost.lean ====
/- The arrays the kernel program makes of its byte arguments before it runs. -/
module

public import proofs.«01_k».proof.Proof.Gen.KernelIdeal.Frame
public import Idealize.ShloMosaic.Lib.Pointwise

@[expose] public section

noncomputable section

namespace Cert.KernelIdeal.Gen

open Cert Idealize.ShloMosaic Idealize.ShloMosaic.TcCoe Idealize.SL.Sem

variable (m : (ℓ : Loc nD τ sig) → Buf (Elt Ideal) ℓ) (c : Dev nD)

theorem V_main_v0 : (V m c main_v0 : Vec Ideal S2x1024x3072 .fp8e4m3)
    = bitcastToFloat (F := Ideal) .fp8e4m3 (m ((c.tc : Thread nD τ).loc main_arg0) : IVec S2x1024x3072 8) := by
  simp only [V, hostOps0, List.flatten_cons, List.flatten_nil, List.append_nil, List.cons_append, List.nil_append, StableHlo.after_cons, StableHlo.after_nil]
  rw [StableHlo.unary_result_ne _ _ _ _ _ _ (by decide), StableHlo.unary_result_ne _ _ _ _ _ _ (by decide), StableHlo.unary_result]
theorem V_main_v1 : (V m c main_v1 : Vec Ideal S2x1024x3072 .fp8e5m2)
    = bitcastToFloat (F := Ideal) .fp8e5m2 (m ((c.tc : Thread nD τ).loc main_arg3) : IVec S2x1024x3072 8) := by
  simp only [V, hostOps0, List.flatten_cons, List.flatten_nil, List.append_nil, List.cons_append, List.nil_append, StableHlo.after_cons, StableHlo.after_nil]
  rw [StableHlo.unary_result_ne _ _ _ _ _ _ (by decide), StableHlo.unary_result, StableHlo.unary_result_ne _ _ _ _ _ _ (by decide)]
theorem V_main_v2 : (V m c main_v2 : Vec Ideal S2x1024x3072 .fp8e5m2)
    = bitcastToFloat (F := Ideal) .fp8e5m2 (m ((c.tc : Thread nD τ).loc main_arg5) : IVec S2x1024x3072 8) := by
  simp only [V, hostOps0, List.flatten_cons, List.flatten_nil, List.append_nil, List.cons_append, List.nil_append, StableHlo.after_cons, StableHlo.after_nil]
  rw [StableHlo.unary_result, StableHlo.unary_result_ne _ _ _ _ _ _ (by decide), StableHlo.unary_result_ne _ _ _ _ _ _ (by decide)]

end Cert.KernelIdeal.Gen

end
-- ==== Proof.RefHost.lean ====
/- The arrays the reference program makes of its byte arguments before it runs. -/
module

public import proofs.«01_k».proof.Proof.Gen.ReferenceIdeal.Frame
public import Idealize.ShloMosaic.Lib.Pointwise

@[expose] public section

noncomputable section

namespace Cert.ReferenceIdeal.Gen

open Cert Idealize.ShloMosaic Idealize.ShloMosaic.TcCoe Idealize.SL.Sem

variable (m : (ℓ : Loc nD τ sig) → Buf (Elt Ideal) ℓ) (c : Dev nD)

theorem V_main_v0 : (V m c main_v0 : Vec Ideal S2x1024x3072 .fp8e4m3)
    = bitcastToFloat (F := Ideal) .fp8e4m3 (m ((c.tc : Thread nD τ).loc main_arg0) : IVec S2x1024x3072 8) := by
  simp only [V, hostOps0, List.flatten_cons, List.flatten_nil, List.append_nil, List.cons_append, List.nil_append, StableHlo.after_cons, StableHlo.after_nil]
  rw [StableHlo.unary_result_ne _ _ _ _ _ _ (by decide), StableHlo.unary_result_ne _ _ _ _ _ _ (by decide), StableHlo.unary_result]
theorem V_main_v1 : (V m c main_v1 : Vec Ideal S2x1024x3072 .fp8e5m2)
    = bitcastToFloat (F := Ideal) .fp8e5m2 (m ((c.tc : Thread nD τ).loc main_arg3) : IVec S2x1024x3072 8) := by
  simp only [V, hostOps0, List.flatten_cons, List.flatten_nil, List.append_nil, List.cons_append, List.nil_append, StableHlo.after_cons, StableHlo.after_nil]
  rw [StableHlo.unary_result_ne _ _ _ _ _ _ (by decide), StableHlo.unary_result, StableHlo.unary_result_ne _ _ _ _ _ _ (by decide)]
theorem V_main_v2 : (V m c main_v2 : Vec Ideal S2x1024x3072 .fp8e5m2)
    = bitcastToFloat (F := Ideal) .fp8e5m2 (m ((c.tc : Thread nD τ).loc main_arg5) : IVec S2x1024x3072 8) := by
  simp only [V, hostOps0, List.flatten_cons, List.flatten_nil, List.append_nil, List.cons_append, List.nil_append, StableHlo.after_cons, StableHlo.after_nil]
  rw [StableHlo.unary_result, StableHlo.unary_result_ne _ _ _ _ _ _ (by decide), StableHlo.unary_result_ne _ _ _ _ _ _ (by decide)]

end Cert.ReferenceIdeal.Gen

end
-- ==== Proof.Inputs.lean ====
/- The real numbers the two programs are given, and that each program reads exactly those. -/
module

public import proofs.«01_k».proof.Defs
public import proofs.«01_k».proof.Proof.Gen.Pre_finite
public import proofs.«01_k».proof.Proof.InputsReal
public import proofs.«01_k».proof.Proof.KernelHost
public import proofs.«01_k».proof.Proof.RefHost
public import proofs.«01_k».proof.Proof.KernelBlocks
public import proofs.«01_k».proof.Proof.RefRun

@[expose] public section

noncomputable section

namespace Cert

open Cert Idealize.ShloMosaic Idealize.ShloMosaic.TcCoe Idealize.SL.Sem Cert.KernelIdeal

variable (m : (ℓ : Loc KernelIdeal.nD KernelIdeal.τ KernelIdeal.sig) → Buf (Elt Ideal) ℓ) (c : Dev KernelIdeal.nD)

/-- The arguments of the kernel as reals. -/
def inputs : Spec.Inputs where
  X b n l := (Ideal.ofBits .fp8e4m3 ((m ((c.tc : Thread nD τ).loc main_arg0) : IVec S2x1024x3072 8) (ix3 b n l))).toReal
  A b n := ((m ((c.tc : Thread nD τ).loc main_arg1) : Vec Ideal S2x1024 .f32) (ix2 b n) : EReal).toReal
  O b n l := ((m ((c.tc : Thread nD τ).loc main_arg2) : Vec Ideal S2x1024x3072 .bf16) (ix3 b n l) : EReal).toReal
  Y b n l := (Ideal.ofBits .fp8e5m2 ((m ((c.tc : Thread nD τ).loc main_arg3) : IVec S2x1024x3072 8) (ix3 b n l))).toReal
  D b n := ((m ((c.tc : Thread nD τ).loc main_arg4) : Vec Ideal S2x1024 .f32) (ix2 b n) : EReal).toReal
  H b n l := (Ideal.ofBits .fp8e5m2 ((m ((c.tc : Thread nD τ).loc main_arg5) : IVec S2x1024x3072 8) (ix3 b n l))).toReal
  C b n := ((m ((c.tc : Thread nD τ).loc main_arg6) : Vec Ideal S2x1024 .f32) (ix2 b n) : EReal).toReal
  M b l := ((m ((c.tc : Thread nD τ).loc main_arg7) : Vec Ideal S2x3072 .f32) (ix2 b l) : EReal).toReal

variable {m}

/-- Under the precondition the kernel's arrays hold those reals. -/
theorem kernel_holds (hp : Pre_KernelIdeal_finite m) : KernelIdeal.Gen.Holds m (inputs m c) c := by
  obtain ⟨p0, p3, p5, p1, p2, p4, p6, p7⟩ := hp c
  constructor
  · intro b n l; rw [KernelIdeal.Gen.V_main_v0]; exact Pre_finite.real0 _ _ _ _ _ _ _ _ p0 (ix3 b n l)
  · intro b n; rw [KernelIdeal.Gen.V_main_arg1]; exact Pre_finite.real1 _ _ _ _ _ _ _ _ p1 (ix2 b n)
  · intro b n l; rw [KernelIdeal.Gen.V_main_arg2]; exact Pre_finite.real2 _ _ _ _ _ _ _ _ p2 (ix3 b n l)
  · intro b n l; rw [KernelIdeal.Gen.V_main_v1]; exact Pre_finite.real3 _ _ _ _ _ _ _ _ p3 (ix3 b n l)
  · intro b n; rw [KernelIdeal.Gen.V_main_arg4]; exact Pre_finite.real4 _ _ _ _ _ _ _ _ p4 (ix2 b n)
  · intro b n l; rw [KernelIdeal.Gen.V_main_v2]; exact Pre_finite.real5 _ _ _ _ _ _ _ _ p5 (ix3 b n l)
  · intro b n; rw [KernelIdeal.Gen.V_main_arg6]; exact Pre_finite.real6 _ _ _ _ _ _ _ _ p6 (ix2 b n)
  · intro b l; rw [KernelIdeal.Gen.V_main_arg7]; exact Pre_finite.real7 _ _ _ _ _ _ _ _ p7 (ix2 b l)

variable {m' : (ℓ : Loc ReferenceIdeal.nD ReferenceIdeal.τ ReferenceIdeal.sig) → Buf (Elt Ideal) ℓ}

/-- Given the same arguments, the reference's arrays hold the same reals. -/
theorem reference_arrays (hp : Pre_KernelIdeal_finite m)
    (he : m' ((c.tc : Thread ReferenceIdeal.nD ReferenceIdeal.τ).loc ReferenceIdeal.main_arg0) = m ((c.tc : Thread nD τ).loc main_arg0)
      ∧ m' ((c.tc : Thread ReferenceIdeal.nD ReferenceIdeal.τ).loc ReferenceIdeal.main_arg1) = m ((c.tc : Thread nD τ).loc main_arg1)
      ∧ m' ((c.tc : Thread ReferenceIdeal.nD ReferenceIdeal.τ).loc ReferenceIdeal.main_arg2) = m ((c.tc : Thread nD τ).loc main_arg2)
      ∧ m' ((c.tc : Thread ReferenceIdeal.nD ReferenceIdeal.τ).loc ReferenceIdeal.main_arg3) = m ((c.tc : Thread nD τ).loc main_arg3)
      ∧ m' ((c.tc : Thread ReferenceIdeal.nD ReferenceIdeal.τ).loc ReferenceIdeal.main_arg4) = m ((c.tc : Thread nD τ).loc main_arg4)
      ∧ m' ((c.tc : Thread ReferenceIdeal.nD ReferenceIdeal.τ).loc ReferenceIdeal.main_arg5) = m ((c.tc : Thread nD τ).loc main_arg5)
      ∧ m' ((c.tc : Thread ReferenceIdeal.nD ReferenceIdeal.τ).loc ReferenceIdeal.main_arg6) = m ((c.tc : Thread nD τ).loc main_arg6)
      ∧ m' ((c.tc : Thread ReferenceIdeal.nD ReferenceIdeal.τ).loc ReferenceIdeal.main_arg7) = m ((c.tc : Thread nD τ).loc main_arg7)) :
    ReferenceIdeal.Gen.Arrays m' c (inputs m c) := by
  obtain ⟨e0, e1, e2, e3, e4, e5, e6, e7⟩ := he
  obtain ⟨p0, p3, p5, p1, p2, p4, p6, p7⟩ := hp c
  constructor
  · intro b n l; rw [ReferenceIdeal.Gen.V_main_v0, e0]; exact Pre_finite.real0 _ _ _ _ _ _ _ _ p0 (ix3 b n l)
  · intro b n; rw [ReferenceIdeal.Gen.V_main_arg1, e1]; exact Pre_finite.real1 _ _ _ _ _ _ _ _ p1 (ix2 b n)
  · intro b n l; rw [ReferenceIdeal.Gen.V_main_arg2, e2]; exact Pre_finite.real2 _ _ _ _ _ _ _ _ p2 (ix3 b n l)
  · intro b n l; rw [ReferenceIdeal.Gen.V_main_v1, e3]; exact Pre_finite.real3 _ _ _ _ _ _ _ _ p3 (ix3 b n l)
  · intro b n; rw [ReferenceIdeal.Gen.V_main_arg4, e4]; exact Pre_finite.real4 _ _ _ _ _ _ _ _ p4 (ix2 b n)
  · intro b n l; rw [ReferenceIdeal.Gen.V_main_v2, e5]; exact Pre_finite.real5 _ _ _ _ _ _ _ _ p5 (ix3 b n l)
  · intro b n; rw [ReferenceIdeal.Gen.V_main_arg6, e6]; exact Pre_finite.real6 _ _ _ _ _ _ _ _ p6 (ix2 b n)
  · intro b l; rw [ReferenceIdeal.Gen.V_main_arg7, e7]; exact Pre_finite.real7 _ _ _ _ _ _ _ _ p7 (ix2 b l)

end Cert

end
-- ==== Proof.lean ====
/- The proof of the certificate: the frames, the named constants, and the four results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.BitsFrame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite
public import proofs.«01_k».proof.Proof.KernelArrays
public import proofs.«01_k».proof.Proof.RefRun
public import proofs.«01_k».proof.Proof.Inputs
public import Idealize.ShloMosaic.Adequacy
public import Idealize.ShloMosaic.Init

@[expose] public section

noncomputable section

namespace Cert.Proof

open Idealize.ShloMosaic Idealize.SL.Sem Cert.Kernel

/-- Every program leaves its arguments and its semaphores as they were, the named constants are the literals they
    stand for, and on finite inputs both programs write the four arrays `Spec.Inputs.out0`, …, `out3`. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ,
  fun m ρ _ => Cert.KernelIdeal.Gen.run_frame m ρ,
  fun m ρ _ => Cert.KernelIdeal.Gen.run_frame m ρ,
  fun m ρ _ => Cert.ReferenceIdeal.Gen.frame m ρ,
  fun m ρ _ => Cert.ReferenceIdeal.Gen.frame m ρ,
  ⟨IdealRules.named_const.statement Cert.KernelIdeal.κ "inv_n" .f32 0x39AAAAAB#32 _ rfl,
    IdealRules.named_const.statement Cert.KernelIdeal.κ "inv_n2" .f32 0x33E38E39#32 _ rfl⟩,
  fun m g m' g' hp he => by
    have same : ∀ c, Cert.inputs m c = Cert.inputs m 0 := fun c => congrArg (Cert.inputs m) (Subsingleton.elim c 0)
    refine ⟨fun _ => (Cert.inputs m 0).out0, fun _ => (Cert.inputs m 0).out1, fun _ => (Cert.inputs m 0).out2, fun _ => (Cert.inputs m 0).out3,
      Cert.KernelIdeal.Gen.run_value m g fun c => ?_, Cert.ReferenceIdeal.Gen.run_value m' g' fun c => ?_⟩
    · rw [← same c]; exact Cert.kernel_holds c hp
    · rw [← same c]; exact Cert.reference_arrays c hp (he c)⟩

end Cert.Proof

end
